-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "edge" .f32 0x3F0CCCCD#32 ((11 / 20 : ℝ) : EReal)
  ∧ IdealRules.named_const.Statement Cert.KernelIdeal.κ "w_lo" .f32 0x3F2AAAAB#32 ((2 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608 : Shape := ⟨1, ![8388608]⟩
abbrev S32x2x16 : Shape := ⟨3, ![32, 2, 16]⟩
abbrev S8192 : Shape := ⟨1, ![8192]⟩
abbrev S2x16 : Shape := ⟨2, ![2, 16]⟩
abbrev S_ : Shape := ⟨0, ![]⟩
abbrev S16 : Shape := ⟨1, ![16]⟩
abbrev S1x16 : Shape := ⟨2, ![1, 16]⟩
abbrev S1x2x16 : Shape := ⟨3, ![1, 2, 16]⟩
abbrev S65536x128 : Shape := ⟨2, ![65536, 128]⟩
abbrev S2x8x128 : Shape := ⟨3, ![2, 8, 128]⟩
abbrev S8192x128 : Shape := ⟨2, ![8192, 128]⟩
abbrev S1024x8x128 : Shape := ⟨3, ![1024, 8, 128]⟩
abbrev S8x128 : Shape := ⟨2, ![8, 128]⟩
abbrev S1x8x128 : Shape := ⟨3, ![1, 8, 128]⟩
abbrev S1x1 : Shape := ⟨2, ![1, 1]⟩
abbrev S32x1x16 : Shape := ⟨3, ![32, 1, 16]⟩
abbrev S32x16 : Shape := ⟨2, ![32, 16]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 8
  | .local .tc .vmem => 9
  | .local .scVector .vmem => 5
  | _ => 0

abbrev bufTy : (tb : Table) → Fin (nBuf tb) → BufTy
  | .hbm, ⟨0, _⟩ => ⟨S8388608, .f32⟩
  | .hbm, ⟨1, _⟩ => ⟨S8388608, .f32⟩
  | .hbm, ⟨2, _⟩ => ⟨S32x2x16, .f32⟩
  | .hbm, ⟨3, _⟩ => ⟨S65536x128, .f32⟩
  | .hbm, ⟨4, _⟩ => ⟨S65536x128, .f32⟩
  | .hbm, ⟨5, _⟩ => ⟨S2x8x128, .f32⟩
  | .hbm, ⟨6, _⟩ => ⟨S1x1, .f32⟩
  | .hbm, ⟨7, _⟩ => ⟨S_, .f32⟩
  | .local .tc .vmem, ⟨0, _⟩ => ⟨S8192x128, .f32⟩
  | .local .tc .vmem, ⟨1, _⟩ => ⟨S8192x128, .f32⟩
  | .local .tc .vmem, ⟨2, _⟩ => ⟨S8192x128, .f32⟩
  | .local .tc .vmem, ⟨3, _⟩ => ⟨S8192x128, .f32⟩
  | .local .tc .vmem, ⟨4, _⟩ => ⟨S2x8x128, .f32⟩
  | .local .tc .vmem, ⟨5, _⟩ => ⟨S2x8x128, .f32⟩
  | .local .tc .vmem, ⟨6, _⟩ => ⟨S32x2x16, .f32⟩
  | .local .tc .vmem, ⟨7, _⟩ => ⟨S2x8x128, .f32⟩
  | .local .tc .vmem, ⟨8, _⟩ => ⟨S1x1, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S2x16, .f32⟩
  | _, _ => ⟨S8388608, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c8192_i32 : BitVec 32 := 8192#32
  let v8 : BitVec 32 := Scalar.addi v2 c8192_i32
  ![v8.toNat]
@[reducible] def k0_t1_loop : Scf.Loop 32 :=
  let c0_i32 : BitVec 32 := 0#32
  let c3_i32 : BitVec 32 := 3#32
  let v13 : BitVec 32 := Scalar.addi c0_i32 c3_i32
  let c1_i32 : BitVec 32 := 1#32
  ⟨c0_i32, v13, c1_i32⟩
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
@[reducible] def k0_t2_loop : Scf.Loop 32 :=
  let c0_i32_15 : BitVec 32 := 0#32
  let c64_i32_16 : BitVec 32 := 64#32
  let v57 : BitVec 32 := Scalar.addi c0_i32_15 c64_i32_16
  let c1_i32_17 : BitVec 32 := 1#32
  ⟨c0_i32_15, v57, c1_i32_17⟩
def k0_off4 (k0_t2 : Fin k0_t2_loop.trips) (c0_i32_31 : BitVec 32) : Fin 1 → Nat :=
  let c0_i32_30 : BitVec 32 := 0#32
  let c0_i32_15 : BitVec 32 := 0#32
  let c1_i32_17 : BitVec 32 := 1#32
  let arg29 : BitVec 32 := Scf.iv c0_i32_15 c1_i32_17 k0_t2
  let c1_i32_29 : BitVec 32 := 1#32
  let v81 : BitVec 32 := Scalar.muli arg29 c1_i32_29
  let v82 : BitVec 32 := Scalar.addi c0_i32_30 v81
  let c128_i32 : BitVec 32 := 128#32
  let v83 : BitVec 32 := Scalar.muli v82 c128_i32
  let v84 : BitVec 32 := Scalar.addi v83 c0_i32_31
  let v85 : Index := Scalar.indexCast v84
  ![v85.toNat]
def k0_off5 (i : grid0.Coords) (k0_t1 : Fin k0_t1_loop.trips) (c0_i32_14 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c2_i32_13 : BitVec 32 := 2#32
  let c0_i32_12 : BitVec 32 := 0#32
  let c0_i32 : BitVec 32 := 0#32
  let c1_i32 : BitVec 32 := 1#32
  let arg12 : BitVec 32 := Scf.iv c0_i32 c1_i32 k0_t1
  let c1_i32_11 : BitVec 32 := 1#32
  let v49 : BitVec 32 := Scalar.muli arg12 c1_i32_11
  let v50 : BitVec 32 := Scalar.addi c0_i32_12 v49
  let v51 : BitVec 32 := Scalar.muli c2_i32_13 v50
  let v52 : BitVec 32 := Scalar.addi v51 c0_i32_14
  let c2_i32_19 : BitVec 32 := 2#32
  let v59 : BitVec 32 := Scalar.addi v52 c2_i32_19
  let c8192_i32_20 : BitVec 32 := 8192#32
  let v60 : BitVec 32 := Scalar.muli v59 c8192_i32_20
  let v61 : BitVec 32 := Scalar.addi v2 v60
  ![v61.toNat]
@[reducible] def k0_t3_loop : Scf.Loop 32 :=
  let c0_i32_23 : BitVec 32 := 0#32
  let c64_i32_24 : BitVec 32 := 64#32
  let v72 : BitVec 32 := Scalar.addi c0_i32_23 c64_i32_24
  let c1_i32_25 : BitVec 32 := 1#32
  ⟨c0_i32_23, v72, c1_i32_25⟩
def k0_off6 (k0_t3 : Fin k0_t3_loop.trips) (c0_i32_31 : BitVec 32) : Fin 1 → Nat :=
  let c0_i32_30 : BitVec 32 := 0#32
  let c0_i32_23 : BitVec 32 := 0#32
  let c1_i32_25 : BitVec 32 := 1#32
  let arg29 : BitVec 32 := Scf.iv c0_i32_23 c1_i32_25 k0_t3
  let c1_i32_29 : BitVec 32 := 1#32
  let v81 : BitVec 32 := Scalar.muli arg29 c1_i32_29
  let v82 : BitVec 32 := Scalar.addi c0_i32_30 v81
  let c128_i32 : BitVec 32 := 128#32
  let v83 : BitVec 32 := Scalar.muli v82 c128_i32
  let v84 : BitVec 32 := Scalar.addi v83 c0_i32_31
  let v85 : Index := Scalar.indexCast v84
  ![v85.toNat]
@[reducible] def k0_t4_loop : Scf.Loop 32 :=
  let c0_i32_1 : BitVec 32 := 0#32
  let c64_i32 : BitVec 32 := 64#32
  let v19 : BitVec 32 := Scalar.addi c0_i32_1 c64_i32
  let c1_i32_2 : BitVec 32 := 1#32
  ⟨c0_i32_1, v19, c1_i32_2⟩
def k0_off7 (k0_t4 : Fin k0_t4_loop.trips) (c0_i32_13 : BitVec 32) : Fin 1 → Nat :=
  let c0_i32_12 : BitVec 32 := 0#32
  let c0_i32_1 : BitVec 32 := 0#32
  let c1_i32_2 : BitVec 32 := 1#32
  let arg12 : BitVec 32 := Scf.iv c0_i32_1 c1_i32_2 k0_t4
  let c1_i32_11 : BitVec 32 := 1#32
  let v49 : BitVec 32 := Scalar.muli arg12 c1_i32_11
  let v50 : BitVec 32 := Scalar.addi c0_i32_12 v49
  let c128_i32 : BitVec 32 := 128#32
  let v51 : BitVec 32 := Scalar.muli v50 c128_i32
  let v52 : BitVec 32 := Scalar.addi v51 c0_i32_13
  let v53 : Index := Scalar.indexCast v52
  ![v53.toNat]
@[reducible] def k0_t5_loop : Scf.Loop 32 :=
  let c0_i32_4 : BitVec 32 := 0#32
  let c64_i32_5 : BitVec 32 := 64#32
  let v25 : BitVec 32 := Scalar.addi c0_i32_4 c64_i32_5
  let c1_i32_6 : BitVec 32 := 1#32
  ⟨c0_i32_4, v25, c1_i32_6⟩
def k0_off8 (k0_t5 : Fin k0_t5_loop.trips) (c0_i32_13 : BitVec 32) : Fin 1 → Nat :=
  let c0_i32_12 : BitVec 32 := 0#32
  let c0_i32_4 : BitVec 32 := 0#32
  let c1_i32_6 : BitVec 32 := 1#32
  let arg12 : BitVec 32 := Scf.iv c0_i32_4 c1_i32_6 k0_t5
  let c1_i32_11 : BitVec 32 := 1#32
  let v49 : BitVec 32 := Scalar.muli arg12 c1_i32_11
  let v50 : BitVec 32 := Scalar.addi c0_i32_12 v49
  let c128_i32 : BitVec 32 := 128#32
  let v51 : BitVec 32 := Scalar.muli v50 c128_i32
  let v52 : BitVec 32 := Scalar.addi v51 c0_i32_13
  let v53 : Index := Scalar.indexCast v52
  ![v53.toNat]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r0 : BitVec 32 := 0#32
  let c0_i32_12_r0 : BitVec 32 := 0#32
  ![v1.toNat, 0, 0]
abbrev grid1 : Pipeline.Grid := ⟨1, ![6], ![false]⟩

def k1_cond2 (i : grid1.Coords) : BitVec 1 :=
  let arg0 : BitVec 32 := BitVec.ofNat 32 (i 0).val
  let c5_i32 : BitVec 32 := 5#32
  let v31 : BitVec 1 := Scalar.cmpi .eq arg0 c5_i32
  let v32 : BitVec 32 := Scalar.extui v31
  let c0_i32_19 : BitVec 32 := 0#32
  let v33 : BitVec 1 := Scalar.cmpi .ne v32 c0_i32_19
  v33

def cc1_transform_0 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x2x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "edge" => some ((11 / 20 : ℝ) : EReal)
  | "w_lo" => some ((2 / 3 : ℝ) : EReal)
  | _ => none
-- ==== ReferenceIdeal.lean ====
abbrev S8388608 : Shape := ⟨1, ![8388608]⟩
abbrev S20 : Shape := ⟨1, ![20]⟩
abbrev S_ : Shape := ⟨0, ![]⟩
abbrev S10 : Shape := ⟨1, ![10]⟩
abbrev S1 : Shape := ⟨1, ![1]⟩
abbrev S11 : Shape := ⟨1, ![11]⟩
abbrev S20x1 : Shape := ⟨2, ![20, 1]⟩
abbrev S8388608x1 : Shape := ⟨2, ![8388608, 1]⟩
abbrev S1x10 : Shape := ⟨2, ![1, 10]⟩
abbrev S8388608x10 : Shape := ⟨2, ![8388608, 10]⟩

abbrev nBuf : Space → Nat
  | .hbm => 165
  | .vmem => 0
  | .smem => 0
  | _ => 0

abbrev hbmTy0_0 (i : Nat) : BufTy := match i % 128 with
  | 0 => ⟨S8388608, .f32⟩
  | 1 => ⟨S8388608, .f32⟩
  | 2 => ⟨S20, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S10, .f32⟩
  | 11 => ⟨S_, .f32⟩
  | 12 => ⟨S10, .f32⟩
  | 13 => ⟨S10, .f32⟩
  | 14 => ⟨S1, .f32⟩
  | 15 => ⟨S_, .f32⟩
  | 16 => ⟨S10, .f32⟩
  | 17 => ⟨S10, .f32⟩
  | 18 => ⟨S10, .f32⟩
  | 19 => ⟨S10, .f32⟩
  | 20 => ⟨S1, .f32⟩
  | 21 => ⟨S10, .f32⟩
  | 22 => ⟨S10, .f32⟩
  | 23 => ⟨S10, .f32⟩
  | 24 => ⟨S1, .f32⟩
  | 25 => ⟨S11, .f32⟩
  | 26 => ⟨S10, .f32⟩
  | 27 => ⟨S_, .f32⟩
  | 28 => ⟨S20, .f32⟩
  | 29 => ⟨S20, .f32⟩
  | 30 => ⟨S20, .i32⟩
  | 31 => ⟨S_, .i32⟩
  | 32 => ⟨S10, .i32⟩
  | 33 => ⟨S_, .i32⟩
  | 34 => ⟨S_, .i32⟩
  | 35 => ⟨S20, .i32⟩
  | 36 => ⟨S20, .i32⟩
  | 37 => ⟨S_, .i32⟩
  | 38 => ⟨S20, .i32⟩
  | 39 => ⟨S20, .i1⟩
  | 40 => ⟨S_, .i32⟩
  | 41 => ⟨S20, .i32⟩
  | 42 => ⟨S20, .i32⟩
  | 43 => ⟨S20, .i32⟩
  | 44 => ⟨S20x1, .i32⟩
  | 45 => ⟨S_, .i32⟩
  | 46 => ⟨S20, .i32⟩
  | 47 => ⟨S10, .i32⟩
  | 48 => ⟨S8388608x1, .f32⟩
  | 49 => ⟨S1x10, .f32⟩
  | 50 => ⟨S8388608x10, .f32⟩
  | 51 => ⟨S8388608x10, .f32⟩
  | 52 => ⟨S8388608x10, .f32⟩
  | 53 => ⟨S8388608x10, .f32⟩
  | 54 => ⟨S8388608x10, .i32⟩
  | 55 => ⟨S_, .f32⟩
  | 56 => ⟨S_, .i32⟩
  | 57 => ⟨S8388608, .f32⟩
  | 58 => ⟨S8388608, .i32⟩
  | 59 => ⟨S_, .i32⟩
  | 60 => ⟨S8388608, .i32⟩
  | 61 => ⟨S8388608, .i1⟩
  | 62 => ⟨S1, .i32⟩
  | 63 => ⟨S_, .i32⟩
  | 64 => ⟨S8388608, .i32⟩
  | 65 => ⟨S8388608, .i32⟩
  | 66 => ⟨S_, .i32⟩
  | 67 => ⟨S8388608, .i32⟩
  | 68 => ⟨S8388608, .i1⟩
  | 69 => ⟨S1, .i32⟩
  | 70 => ⟨S_, .i32⟩
  | 71 => ⟨S8388608, .i32⟩
  | 72 => ⟨S8388608, .i32⟩
  | 73 => ⟨S_, .i32⟩
  | 74 => ⟨S8388608, .i32⟩
  | 75 => ⟨S8388608, .i1⟩
  | 76 => ⟨S1, .i32⟩
  | 77 => ⟨S_, .i32⟩
  | 78 => ⟨S8388608, .i32⟩
  | 79 => ⟨S8388608, .i32⟩
  | 80 => ⟨S_, .i32⟩
  | 81 => ⟨S8388608, .i32⟩
  | 82 => ⟨S8388608, .i1⟩
  | 83 => ⟨S1, .i32⟩
  | 84 => ⟨S_, .i32⟩
  | 85 => ⟨S8388608, .i32⟩
  | 86 => ⟨S8388608, .i32⟩
  | 87 => ⟨S_, .i32⟩
  | 88 => ⟨S8388608, .i32⟩
  | 89 => ⟨S8388608, .i1⟩
  | 90 => ⟨S1, .i32⟩
  | 91 => ⟨S_, .i32⟩
  | 92 => ⟨S8388608, .i32⟩
  | 93 => ⟨S8388608, .i32⟩
  | 94 => ⟨S_, .i32⟩
  | 95 => ⟨S8388608, .i32⟩
  | 96 => ⟨S8388608, .i1⟩
  | 97 => ⟨S1, .i32⟩
  | 98 => ⟨S_, .i32⟩
  | 99 => ⟨S8388608, .i32⟩
  | 100 => ⟨S8388608, .i32⟩
  | 101 => ⟨S_, .i32⟩
  | 102 => ⟨S8388608, .i32⟩
  | 103 => ⟨S8388608, .i1⟩
  | 104 => ⟨S1, .i32⟩
  | 105 => ⟨S_, .i32⟩
  | 106 => ⟨S8388608, .i32⟩
  | 107 => ⟨S8388608, .i32⟩
  | 108 => ⟨S_, .i32⟩
  | 109 => ⟨S8388608, .i32⟩
  | 110 => ⟨S8388608, .i1⟩
  | 111 => ⟨S1, .i32⟩
  | 112 => ⟨S_, .i32⟩
  | 113 => ⟨S8388608, .i32⟩
  | 114 => ⟨S8388608, .i32⟩
  | 115 => ⟨S_, .i32⟩
  | 116 => ⟨S8388608, .i32⟩
  | 117 => ⟨S8388608, .i1⟩
  | 118 => ⟨S1, .i32⟩
  | 119 => ⟨S_, .i32⟩
  | 120 => ⟨S8388608, .i32⟩
  | 121 => ⟨S8388608, .i32⟩
  | 122 => ⟨S_, .i32⟩
  | 123 => ⟨S8388608, .i32⟩
  | 124 => ⟨S8388608, .i1⟩
  | 125 => ⟨S1, .i32⟩
  | 126 => ⟨S_, .i32⟩
  | 127 => ⟨S8388608, .i32⟩
  | _ => ⟨S8388608, .f32⟩

abbrev hbmTy0_1 (i : Nat) : BufTy := match i % 128 with
  | 0 => ⟨S8388608, .i32⟩
  | 1 => ⟨S_, .i32⟩
  | 2 => ⟨S_, .i32⟩
  | 3 => ⟨S_, .i32⟩
  | 4 => ⟨S_, .i32⟩
  | 5 => ⟨S8388608, .i32⟩
  | 6 => ⟨S8388608, .i32⟩
  | 7 => ⟨S_, .i32⟩
  | 8 => ⟨S8388608, .f32⟩
  | 9 => ⟨S_, .f32⟩
  | 10 => ⟨S8388608, .f32⟩
  | 11 => ⟨S8388608, .f32⟩
  | 12 => ⟨S_, .f32⟩
  | 13 => ⟨S8388608, .f32⟩
  | 14 => ⟨S8388608, .f32⟩
  | 15 => ⟨S_, .f32⟩
  | 16 => ⟨S8388608, .f32⟩
  | 17 => ⟨S8388608, .f32⟩
  | 18 => ⟨S_, .f32⟩
  | 19 => ⟨S8388608, .f32⟩
  | 20 => ⟨S8388608, .f32⟩
  | 21 => ⟨S_, .f32⟩
  | 22 => ⟨S_, .f32⟩
  | 23 => ⟨S_, .f32⟩
  | 24 => ⟨S_, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608, .f32⟩
  | 31 => ⟨S8388608, .f32⟩
  | 32 => ⟨S8388608, .f32⟩
  | 33 => ⟨S_, .f32⟩
  | 34 => ⟨S_, .f32⟩
  | 35 => ⟨S_, .f32⟩
  | 36 => ⟨S_, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_cst_2 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_v6 : Ref sig .tc := ⟨.hbm, 36, rfl⟩
abbrev main_c_4 : Ref sig .tc := ⟨.hbm, 37, rfl⟩
abbrev main_v7 : Ref sig .tc := ⟨.hbm, 38, rfl⟩
abbrev main_v8 : Ref sig .tc := ⟨.hbm, 39, rfl⟩
abbrev main_c_5 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_6 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call2_v0 : Ref sig .tc := ⟨.hbm, 54, rfl⟩
abbrev main_call2_cst : Ref sig .tc := ⟨.hbm, 55, rfl⟩
abbrev main_call2_c : Ref sig .tc := ⟨.hbm, 56, rfl⟩
abbrev main_call2_v1_0 : Ref sig .tc := ⟨.hbm, 57, rfl⟩
abbrev main_v21 : Ref sig .tc := ⟨.hbm, 58, rfl⟩
abbrev main_c_7 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call3_v0 : Ref sig .tc := ⟨.hbm, 64, rfl⟩
abbrev main_v26 : Ref sig .tc := ⟨.hbm, 65, rfl⟩
abbrev main_c_8 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_call4_v0 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call5_v0 : Ref sig .tc := ⟨.hbm, 78, rfl⟩
abbrev main_v36 : Ref sig .tc := ⟨.hbm, 79, rfl⟩
abbrev main_c_10 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_call6_v0 : Ref sig .tc := ⟨.hbm, 85, rfl⟩
abbrev main_v41 : Ref sig .tc := ⟨.hbm, 86, rfl⟩
abbrev main_c_11 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_call7_v0 : Ref sig .tc := ⟨.hbm, 92, rfl⟩
abbrev main_v46 : Ref sig .tc := ⟨.hbm, 93, rfl⟩
abbrev main_c_12 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_call8_v0 : Ref sig .tc := ⟨.hbm, 99, rfl⟩
abbrev main_v51 : Ref sig .tc := ⟨.hbm, 100, rfl⟩
abbrev main_c_13 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_call9_v0 : Ref sig .tc := ⟨.hbm, 106, rfl⟩
abbrev main_v56 : Ref sig .tc := ⟨.hbm, 107, rfl⟩
abbrev main_c_14 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_call10_v0 : Ref sig .tc := ⟨.hbm, 113, rfl⟩
abbrev main_v61 : Ref sig .tc := ⟨.hbm, 114, rfl⟩
abbrev main_c_15 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_call11_v0 : Ref sig .tc := ⟨.hbm, 120, rfl⟩
abbrev main_v66 : Ref sig .tc := ⟨.hbm, 121, rfl⟩
abbrev main_c_16 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_call12_v0 : Ref sig .tc := ⟨.hbm, 127, rfl⟩
abbrev main_v71 : Ref sig .tc := ⟨.hbm, 128, rfl⟩
abbrev main_c_17 : Ref sig .tc := ⟨.hbm, 129, rfl⟩
abbrev main_v72 : Ref sig .tc := ⟨.hbm, 130, rfl⟩
abbrev main_c_18 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_19 : Ref sig .tc := ⟨.hbm, 140, rfl⟩
abbrev main_v81 : Ref sig .tc := ⟨.hbm, 141, rfl⟩
abbrev main_v82 : Ref sig .tc := ⟨.hbm, 142, rfl⟩
abbrev main_cst_20 : Ref sig .tc := ⟨.hbm, 143, rfl⟩
abbrev main_v83 : Ref sig .tc := ⟨.hbm, 144, rfl⟩
abbrev main_v84 : Ref sig .tc := ⟨.hbm, 145, rfl⟩
abbrev main_cst_21 : Ref sig .tc := ⟨.hbm, 146, rfl⟩
abbrev main_v85 : Ref sig .tc := ⟨.hbm, 147, rfl⟩
abbrev main_v86 : Ref sig .tc := ⟨.hbm, 148, rfl⟩
abbrev main_cst_22 : Ref sig .tc := ⟨.hbm, 149, rfl⟩
abbrev main_v87 : Ref sig .tc := ⟨.hbm, 150, rfl⟩
abbrev main_cst_23 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_24 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_25 : Ref sig .tc := ⟨.hbm, 161, rfl⟩
abbrev main_v96 : Ref sig .tc := ⟨.hbm, 162, rfl⟩
abbrev main_cst_26 : Ref sig .tc := ⟨.hbm, 163, rfl⟩
abbrev main_v97 : Ref sig .tc := ⟨.hbm, 164, rfl⟩

abbrev nD : Nat := 1
abbrev τ : Topo := Topo.v7x

variable {F : FTy → Type} [FloatOps F]
-- ==== Proof.KIBase.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by
  unfold EP; infer_instance

/-! ## The tile's memrefs -/

/-- `y_pred`, as a tile addresses it. -/
abbrev pV : Memref sig .scVector .hbm S8388608 .f32 := Memref.whole main_arg0_scv
/-- `y_gt`, as a tile addresses it. -/
abbrev gV : Memref sig .scVector .hbm S8388608 .f32 := Memref.whole main_arg1_scv
/-- The partial sums, as a tile addresses them. -/
abbrev oV : Memref sig .scVector .hbm S32x2x16 .f32 := Memref.whole main_v0_scv
/-- Slot 0's chunk of `y_pred`. -/
abbrev p0 : Memref sig .scVector .vmem S8192 .f32 := Memref.whole cc0_scratch0
/-- Slot 1's chunk of `y_pred`. -/
abbrev p1 : Memref sig .scVector .vmem S8192 .f32 := Memref.whole cc0_scratch1
/-- Slot 0's chunk of `y_gt`. -/
abbrev g0 : Memref sig .scVector .vmem S8192 .f32 := Memref.whole cc0_scratch2
/-- Slot 1's chunk of `y_gt`. -/
abbrev g1 : Memref sig .scVector .vmem S8192 .f32 := Memref.whole cc0_scratch3
/-- The two rows of sums a tile writes out. -/
abbrev stg : Memref sig .scVector .vmem S2x16 .f32 := Memref.whole cc0_scratch4

/-- The tile's coordinates as a thread. -/
abbrev cV (L : grid0.Coords) : Fin τ.nSC := (L 0).castLE hcore0
abbrev jV (L : grid0.Coords) : Fin τ.nSub := (L 1).castLE hsub0

end Cert.Proof.KI
-- ==== Proof.KIReg1.lean ====
module

public import proofs.«01_k».proof.Proof.KIBase
public import proofs.«01_k».proof.Proof.Gen.KernelIdeal.Launch
public import proofs.«01_k».proof.Proof.Gen.KernelIdeal.Points
public import Idealize.ShloMosaic.Lib.Pipeline.RegionsLoop
public import Idealize.ShloMosaic.Lib.WritesUnit
public import Idealize.ShloMosaic.Lib.VecWindow

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev accM : Memref sig .tc .vmem S2x8x128 .f32 := Memref.whole cc1_scratch0

/-- Point's flag for the first point, as the body computes it. -/
abbrev isFirst (i : grid1.Coords) : BitVec 1 :=
  Scalar.cmpi .ne (Scalar.extui (Scalar.cmpi .eq (BitVec.ofNat 32 (i 0).val) 0#32) : BitVec 32) 0#32

/-- A place of the accumulator from a row and a place in it, and back. -/
def rowIx (r : Fin 2) (x : S1x8x128.Idx) : S2x8x128.Idx := fun | 0 => r | 1 => x 1 | 2 => x 2
def rowIn (j : S2x8x128.Idx) : S1x8x128.Idx := fun | 0 => ⟨0, by decide⟩ | 1 => j 1 | 2 => j 2
/-- One row of the accumulator. -/
def accRow (a : S2x8x128.Idx → F .f32) (r : Fin 2) : S1x8x128.Idx → F .f32 := fun x => a (rowIx r x)
/-- The accumulator after a point whose blocks are `x` and `y`. -/
def tcStep (x y : S8192x128.Idx → F .f32) (a : S2x8x128.Idx → F .f32) : S2x8x128.Idx → F .f32 := fun j =>
  if (j 0).val = 0 then k1_pay4 (F := F) y (accRow a 0) (rowIn j) else k1_pay5 (F := F) x y (accRow a 1) (rowIn j)

section Pieces

variable (v : View sig .tc .vmem S2x8x128 .f32) (f : v.ty.Contents (Elt F))

theorem pieces_rows (w1 w0 : S1x8x128.Idx → F .f32) (T : List (View.Piece (Elt F) S2x8x128 .f32)) (j : S2x8x128.Idx) :
    v.read (Elt F) (v.writes (Elt F) f (⟨Rect.unit ![1, 0, 0] S1x8x128.size inb_S2x8x128_S1x8x128_1_0_0, w1⟩
      :: ⟨Rect.unit ![0, 0, 0] S1x8x128.size inb_S2x8x128_S1x8x128_0_0_0, w0⟩ :: T)) j
      = if (j 0).val = 0 then w0 (rowIn j) else w1 (rowIn j) := by
  by_cases h : (j 0).val = 0
  · rw [if_pos h]
    refine (View.read_writes_cons_unit_of_not_mem v f inb_S2x8x128_S1x8x128_1_0_0 w1 _ j rfl 0 (.inl (by show (j 0).val < 1; omega))).trans ?_
    refine View.read_writes_cons_unit_of_mem v f inb_S2x8x128_S1x8x128_0_0_0 w0 _ j (rowIn j) rfl fun b => ?_
    match b with
    | 0 => exact h
    | 1 => exact (Nat.zero_add _).symm
    | 2 => exact (Nat.zero_add _).symm
  · rw [if_neg h]
    refine View.read_writes_cons_unit_of_mem v f inb_S2x8x128_S1x8x128_1_0_0 w1 _ j (rowIn j) rfl fun b => ?_
    match b with
    | 0 => have h2 : (j 0).val < 2 := (j 0).isLt; show (j 0).val = 1 + 0; omega
    | 1 => exact (Nat.zero_add _).symm
    | 2 => exact (Nat.zero_add _).symm

theorem pieces_zero (z : S2x8x128.Idx → F .f32) (T : List (View.Piece (Elt F) S2x8x128 .f32)) (j : S2x8x128.Idx) :
    v.read (Elt F) (v.writes (Elt F) f (⟨Rect.unit ![0, 0, 0] S2x8x128.size inb_S2x8x128_S2x8x128_0_0_0, z⟩ :: T)) j = z j :=
  View.read_writes_cons_unit_of_mem v f inb_S2x8x128_S2x8x128_0_0_0 z _ j j rfl fun b =>
    match b with
    | 0 => (Nat.zero_add _).symm
    | 1 => (Nat.zero_add _).symm
    | 2 => (Nat.zero_add _).symm

theorem pieces_row1 (z : S2x8x128.Idx → F .f32) (w0 : S1x8x128.Idx → F .f32) (x : S1x8x128.Idx) :
    v.read (Elt F) (v.writes (Elt F) f [⟨Rect.unit ![0, 0, 0] S1x8x128.size inb_S2x8x128_S1x8x128_0_0_0, w0⟩,
      ⟨Rect.unit ![0, 0, 0] S2x8x128.size inb_S2x8x128_S2x8x128_0_0_0, z⟩]) (rowIx 1 x) = z (rowIx 1 x) :=
  (View.read_writes_cons_unit_of_not_mem v f inb_S2x8x128_S1x8x128_0_0_0 w0 _ (rowIx 1 x) rfl 0 (.inr (Nat.le_refl _))).trans
    (pieces_zero v f z _ _)

end Pieces

theorem read_acc (f : S2x8x128.Idx → F .f32) : accM.view.read (Elt F) f = f := rfl

theorem acc_writes (a : S2x8x128.Idx → F .f32) (w1 w0 : S1x8x128.Idx → F .f32) (T : List (View.Piece (Elt F) S2x8x128 .f32)) :
    accM.view.writes (Elt F) a (⟨Rect.unit ![1, 0, 0] S1x8x128.size inb_S2x8x128_S1x8x128_1_0_0, w1⟩
      :: ⟨Rect.unit ![0, 0, 0] S1x8x128.size inb_S2x8x128_S1x8x128_0_0_0, w0⟩ :: T)
      = fun j => if (j 0).val = 0 then w0 (rowIn j) else w1 (rowIn j) :=
  (read_acc (accM.view.writes (Elt F) a _)).symm.trans (funext fun j => pieces_rows accM.view a w1 w0 T j)

theorem readAt_row (r : Fin 2) (a : S2x8x128.Idx → F .f32) {off : Fin 3 → ℕ} (inb) (h : off = ![r.val, 0, 0]) :
    accM.view.readAt (Elt F) (Rect.unit (s := S2x8x128) off S1x8x128.size inb).toLoadRect a = accRow a r := by
  subst h
  funext x
  refine congrArg a (funext fun b => Fin.ext ?_)
  match b with
  | 0 => have h2 : (x 0).val < 1 := (x 0).isLt; show r.val + 1 * (x 0).val = r.val; omega
  | 1 => show 0 + 1 * (x 1).val = (x 1).val; omega
  | 2 => show 0 + 1 * (x 2).val = (x 2).val; omega

theorem writes_zero (a z : S2x8x128.Idx → F .f32) :
    accM.view.writes (Elt F) a [⟨Rect.unit ![0, 0, 0] S2x8x128.size inb_S2x8x128_S2x8x128_0_0_0, z⟩] = z :=
  (read_acc (accM.view.writes (Elt F) a _)).symm.trans (funext fun j => pieces_zero accM.view a z _ j)

theorem row1_kept (a z : S2x8x128.Idx → F .f32) (w0 : S1x8x128.Idx → F .f32) :
    accRow (accM.view.writes (Elt F) a [⟨Rect.unit ![0, 0, 0] S1x8x128.size inb_S2x8x128_S1x8x128_0_0_0, w0⟩,
      ⟨Rect.unit ![0, 0, 0] S2x8x128.size inb_S2x8x128_S2x8x128_0_0_0, z⟩]) 1 = accRow z 1 :=
  (congrArg (accRow · 1) (read_acc (accM.view.writes (Elt F) a _)).symm).trans (funext fun x => pieces_row1 accM.view a z w0 x)

section Runs

variable (c : Dev nD) (i : grid1.Coords)
    (M0 : Memref sig .tc .vmem S8192x128 .f32) (h0 : M0.IsWhole) (M1 : Memref sig .tc .vmem S8192x128 .f32) (h1 : M1.IsWhole)
    (M2 : Memref sig .tc .vmem S2x8x128 .f32) (h2 : M2.IsWhole)
    (f0 : Bf (F := F) c M0) (f1 : Bf (F := F) c M1) (f2 : Bf (F := F) c M2) (a : Bf (F := F) c accM)

/-- A point that is neither the first nor the last. -/
theorem run_mid (hf : ¬ isFirst i = 1#1) (hl : ¬ k1_cond2 i = 1#1) (E : Set ℕ) (Q : PUnit → sProp 𝕄) :
        iprop(pt c M0 f0 ∗ pt c M1 f1 ∗ pt c accM a
          ∗ (iprop(pt c M0 f0 ∗ pt c M1 f1 ∗ pt c accM (tcStep (M0.view.read (Elt F) f0) (M1.view.read (Elt F) f1) a)) -∗ Q ⟨⟩))
          ⊢ wp frame (wpE (defs₀ (F := F)) Variants.none c none) E (cc1__tc_body i M0 h0 M1 h1 M2 h2 accM (Memref.isWhole_whole _)) Q := by
  rw [cc1__tc_body_eq_skeleton]
  unfold cc1__tc_body_skel
  rw [k1_part1_eq_skeleton]
  unfold k1_part1_skel
  rw [dif_neg hl]
  simp only [dif_neg hf]
  iintro ⟨H0, H1, Ha, Hk⟩
  sl_exec
  sl_step
  iapply Hk
  isplitl [H0]; · iexact H0
  isplitl [H1]; · iexact H1
  refine Entails.of_eq (pointsTo_congr fun j _ => ?_)
  refine (congrFun (acc_writes a _ _ _) j).trans ?_
  unfold run_mid.sl.v25
  have e0 : View.readAt (Elt F) M0.view (Rect.unit ![0, 0] ![8192, 128] inb_S8192x128_S8192x128_0_0).toLoadRect f0 = M0.view.read (Elt F) f0 := View.readAt_full M0.view f0 _
  have e1 : View.readAt (Elt F) M1.view (Rect.unit ![0, 0] ![8192, 128] inb_S8192x128_S8192x128_0_0).toLoadRect f1 = M1.view.read (Elt F) f1 := View.readAt_full M1.view f1 _
  have ea : View.readAt (Elt F) accM.view (Rect.unit ![0, 0, 0] ![1, 8, 128] inb_S2x8x128_S1x8x128_0_0_0).toLoadRect a = accRow a 0 := readAt_row 0 a _ rfl
  have eb : View.readAt (Elt F) accM.view (Rect.unit ![1, 0, 0] ![1, 8, 128] inb_S2x8x128_S1x8x128_1_0_0).toLoadRect a = accRow a 1 := readAt_row 1 a _ rfl
  rw [e0, e1, ea, eb]
  rfl

theorem run_first (hf : isFirst i = 1#1) (hl : ¬ k1_cond2 i = 1#1) (E : Set ℕ) (Q : PUnit → sProp 𝕄) :
        iprop(pt c M0 f0 ∗ pt c M1 f1 ∗ pt c accM a
          ∗ (iprop(pt c M0 f0 ∗ pt c M1 f1 ∗ pt c accM (tcStep (M0.view.read (Elt F) f0) (M1.view.read (Elt F) f1) (k1_pay1 (F := F)))) -∗ Q ⟨⟩))
          ⊢ wp frame (wpE (defs₀ (F := F)) Variants.none c none) E (cc1__tc_body i M0 h0 M1 h1 M2 h2 accM (Memref.isWhole_whole _)) Q := by
  rw [cc1__tc_body_eq_skeleton]
  unfold cc1__tc_body_skel
  rw [k1_part1_eq_skeleton]
  unfold k1_part1_skel
  rw [dif_neg hl]
  simp only [dif_pos hf]
  iintro ⟨H0, H1, Ha, Hk⟩
  sl_exec
  sl_step
  iapply Hk
  isplitl [H0]; · iexact H0
  isplitl [H1]; · iexact H1
  refine Entails.of_eq (pointsTo_congr fun j _ => ?_)
  unfold run_first.sl.v25 run_first.sl.Ha_2
  refine (congrFun (acc_writes a _ _ _) j).trans ?_
  unfold run_first.sl.v19 run_first.sl.Ha_1 View.readCov
  have e0 : View.readAt (Elt F) M0.view (Rect.unit ![0, 0] ![8192, 128] inb_S8192x128_S8192x128_0_0).toLoadRect f0 = M0.view.read (Elt F) f0 := View.readAt_full M0.view f0 _
  have e1 : View.readAt (Elt F) M1.view (Rect.unit ![0, 0] ![8192, 128] inb_S8192x128_S8192x128_0_0).toLoadRect f1 = M1.view.read (Elt F) f1 := View.readAt_full M1.view f1 _
  have ea : View.readAt (Elt F) accM.view (Rect.unit ![0, 0, 0] ![1, 8, 128] inb_S2x8x128_S1x8x128_0_0_0).toLoadRect
      (accM.view.writes (Elt F) accM.view.junk [⟨Rect.unit ![0, 0, 0] ![2, 8, 128] inb_S2x8x128_S2x8x128_0_0_0, k1_pay1 (F := F)⟩]) = accRow (k1_pay1 (F := F)) 0 :=
    (readAt_row 0 _ _ rfl).trans (congrArg (accRow · 0) (writes_zero _ _))
  rw [e0, e1, ea]
  have eb : View.readAt (Elt F) accM.view (Rect.unit ![1, 0, 0] ![1, 8, 128] inb_S2x8x128_S1x8x128_1_0_0).toLoadRect
      (accM.view.writes (Elt F) accM.view.junk [⟨Rect.unit ![0, 0, 0] ![1, 8, 128] inb_S2x8x128_S1x8x128_0_0_0, k1_pay4 (M1.view.read (Elt F) f1) (accRow (k1_pay1 (F := F)) 0)⟩,
        ⟨Rect.unit ![0, 0, 0] ![2, 8, 128] inb_S2x8x128_S2x8x128_0_0_0, k1_pay1 (F := F)⟩]) = accRow (k1_pay1 (F := F)) 1 :=
    (readAt_row 1 _ _ rfl).trans (row1_kept _ _ _)
  rw [eb]
  rfl

theorem run_last (hf : ¬ isFirst i = 1#1) (hl : k1_cond2 i = 1#1) (E : Set ℕ) (Q : PUnit → sProp 𝕄) :
        iprop(pt c M0 f0 ∗ pt c M1 f1 ∗ pt c M2 f2 ∗ pt c accM a
          ∗ (iprop(∃ f2', ⌜M2.view.read (Elt F) f2' = tcStep (M0.view.read (Elt F) f0) (M1.view.read (Elt F) f1) a⌝ ∗ pt c M0 f0 ∗ pt c M1 f1 ∗ pt c M2 f2' ∗ pt c accM (tcStep (M0.view.read (Elt F) f0) (M1.view.read (Elt F) f1) a)) -∗ Q ⟨⟩))
          ⊢ wp frame (wpE (defs₀ (F := F)) Variants.none c none) E (cc1__tc_body i M0 h0 M1 h1 M2 h2 accM (Memref.isWhole_whole _)) Q := by
  rw [cc1__tc_body_eq_skeleton]
  unfold cc1__tc_body_skel
  rw [k1_part1_eq_skeleton]
  unfold k1_part1_skel
  rw [dif_pos hl]
  simp only [dif_neg hf]
  iintro ⟨H0, H1, H2, Ha, Hk⟩
  sl_exec
  sl_step
  unfold run_last.sl.v34 run_last.sl.Ha_2 run_last.sl.v25 View.readCov
  have e0 : View.readAt (Elt F) M0.view (Rect.unit ![0, 0] ![8192, 128] inb_S8192x128_S8192x128_0_0).toLoadRect f0 = M0.view.read (Elt F) f0 := View.readAt_full M0.view f0 _
  have e1 : View.readAt (Elt F) M1.view (Rect.unit ![0, 0] ![8192, 128] inb_S8192x128_S8192x128_0_0).toLoadRect f1 = M1.view.read (Elt F) f1 := View.readAt_full M1.view f1 _
  have ea : View.readAt (Elt F) accM.view (Rect.unit ![0, 0, 0] ![1, 8, 128] inb_S2x8x128_S1x8x128_0_0_0).toLoadRect a = accRow a 0 := readAt_row 0 a _ rfl
  have eb : View.readAt (Elt F) accM.view (Rect.unit ![1, 0, 0] ![1, 8, 128] inb_S2x8x128_S1x8x128_1_0_0).toLoadRect a = accRow a 1 := readAt_row 1 a _ rfl
  rw [e0, e1, ea, eb]
  have hw : ∀ b, accM.view.writes (Elt F) b [⟨Rect.unit ![1, 0, 0] ![1, 8, 128] inb_S2x8x128_S1x8x128_1_0_0, k1_pay5 (M0.view.read (Elt F) f0) (M1.view.read (Elt F) f1) (accRow a 1)⟩,
      ⟨Rect.unit ![0, 0, 0] ![1, 8, 128] inb_S2x8x128_S1x8x128_0_0_0, k1_pay4 (M1.view.read (Elt F) f1) (accRow a 0)⟩]
      = tcStep (M0.view.read (Elt F) f0) (M1.view.read (Elt F) f1) a := fun b => acc_writes b _ _ _
  rw [hw, hw]
  iapply Hk
  iexists _
  isplitr
  rotate_left
  · isplitl [H0]; · iexact H0
    isplitl [H1]; · iexact H1
    isplitl [H2]; · iexact H2
    iexact Ha
  ipureintro
  funext j
  refine (View.read_writes_cons_unit_of_mem M2.view f2 inb_S2x8x128_S2x8x128_0_0_0 _ _ j j rfl fun b => ?_).trans ?_
  · match b with
    | 0 => exact (Nat.zero_add _).symm
    | 1 => exact (Nat.zero_add _).symm
    | 2 => exact (Nat.zero_add _).symm
  exact congrFun ((View.readAt_full accM.view _ _).trans (View.read_whole (Val := Elt F) cc1_scratch0 _)) j

end Runs

end Cert.Proof.KI
-- ==== Proof.KIDat1.lean ====
module

public import proofs.«01_k».proof.Proof.KIReg1

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- A whole memref owned at contents `X` is its buffer at contents that read as `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns
  rw [hM.set_eq_univ]

variable (V : Dev nD → Valuation τ sig (Elt F))

/-- The blocks of the two arguments at a point. -/
def blkP (c : Dev nD) (t : Fin cfg1.N) : S8192x128.Idx → F .f32 := ((cfg1.win 0).blk t).view.read (Elt F) (V c main_v1)
def blkG (c : Dev nD) (t : Fin cfg1.N) : S8192x128.Idx → F .f32 := ((cfg1.win 1).blk t).view.read (Elt F) (V c main_v2)

/-- The accumulator after the first `n` points. -/
def accAt (c : Dev nD) : ℕ → S2x8x128.Idx → F .f32
  | 0 => k1_pay1
  | n + 1 => if h : n < cfg1.N then tcStep (blkP V c ⟨n, h⟩) (blkG V c ⟨n, h⟩) (accAt c n) else accAt c n

theorem accAt_succ (c : Dev nD) (t : Fin cfg1.N) : accAt V c (t.val + 1) = tcStep (blkP V c t) (blkG V c t) (accAt V c t.val) := by
  rw [accAt, dif_pos t.isLt]

/-- The staging buffers of the other TensorCore kernel, at any contents. -/
def others1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- Before point `n`: the accumulator, after the first point at what the points so far have summed. -/
def accInv (c : Dev nD) (n : ℕ) : sProp 𝕄 := iprop((∃ a : S2x8x128.Idx → F .f32, ⌜n = 0 ∨ a = accAt V c n⌝ ∗ pt c accM a) ∗ others1 c)

variable (B : Dev nD → Set (SemLoc sig × HIx 1))

def dat1 (c : Dev nD) : Dat τ (Elt F) (HIx 1) ℕ UU ℕ cfg1 c where
  A w := V c (Pipeline.arrRef spec1 w)
  after w t := match w with
    | ⟨0, _⟩ => blkP V c t
    | ⟨1, _⟩ => blkG V c t
    | ⟨2, _⟩ => accAt V c (t.val + 1)
  Φ t := accInv V c t.val
  q _ := fullShare
  owed _ := 0
  recorded _ := B c

theorem before1_0 (c : Dev nD) (t : Fin cfg1.N) (d) : (dat1 V B c).before 0 t d = blkP V c t :=
  (dat1 V B c).before_fetched 0 t (fetch1_0 t) d
theorem before1_1 (c : Dev nD) (t : Fin cfg1.N) (d) : (dat1 V B c).before 1 t d = blkG V c t :=
  (dat1 V B c).before_fetched 1 t (fetch1_1 t) d

theorem first1 : ∀ t : Fin grid1.N, isFirst (grid1.coords t) = 1#1 ↔ t.val = 0 := by decide +kernel
theorem last1 : ∀ t : Fin grid1.N, k1_cond2 (grid1.coords t) = 1#1 ↔ t.val = 5 := by decide +kernel

theorem idle1_0 (t : Fin cfg1.N) : cfg1.idle 0 (cfg1.grid.coords t) = false := rfl
theorem idle1_1 (t : Fin cfg1.N) : cfg1.idle 1 (cfg1.grid.coords t) = false := rfl
theorem idle1_2 (t : Fin cfg1.N) (h : ¬ k1_cond2 (grid1.coords t) = 1#1) : cfg1.idle 2 (cfg1.grid.coords t) = true := by
  show (!(k1_cond2 (grid1.coords t) == 1#1)) = true
  rw [Bool.not_eq_true', beq_eq_false_iff_ne]; exact h
theorem live1_2 (t : Fin cfg1.N) (h : k1_cond2 (grid1.coords t) = 1#1) : cfg1.idle 2 (cfg1.grid.coords t) = false := by
  show (!(k1_cond2 (grid1.coords t) == 1#1)) = false
  rw [h]; rfl
theorem noflush1_2 (t : Fin cfg1.N) (h : ¬ t.val = 5) : (cfg1.win 2).flush t = false := by
  rw [← Bool.not_eq_true, flush1_2]
  have h6 : t.val < 6 := by have := t.isLt; have h' : cfg1.N = 6 := N_1; omega
  omega

theorem body1 (c : Dev nD) : BodyObligation (dat1 V B c) (defs₀ (F := F)) Variants.none none Set.univ := fun t => by
  rw [bigSep_W1, bigSep_W1]
  dsimp only []
  have o0 : ∀ X, owns (c : Thread nD τ) (stage1_0 (cfg1.slots t 0)) fullShare X = (_ : sProp 𝕄) := owns_pt c (stage1_0 (cfg1.slots t 0)) (hstage1_0 ((cfg1.slots t 0).cast nbuf1_0))
  have o1 : ∀ X, owns (c : Thread nD τ) (stage1_1 (cfg1.slots t 1)) fullShare X = (_ : sProp 𝕄) := owns_pt c (stage1_1 (cfg1.slots t 1)) (hstage1_1 ((cfg1.slots t 1).cast nbuf1_1))
  have o2 : ∀ X, owns (c : Thread nD τ) (stage1_2 (cfg1.slots t 2)) fullShare X = (_ : sProp 𝕄) := owns_pt c (stage1_2 (cfg1.slots t 2)) (hstage1_2 ((cfg1.slots t 2).cast nbuf1_2))
  have hacc := accAt_succ V c t
  rw [show (dat1 V B c).Φ t.castSucc = accInv V c t.val from rfl, show (dat1 V B c).Φ t.succ = accInv V c (t.val + 1) from rfl,
    show (dat1 V B c).owesAt none t.succ = (dat1 V B c).owesAt none t.castSucc from rfl,
    show (dat1 V B c).after 0 t = blkP V c t from rfl, show (dat1 V B c).after 1 t = blkG V c t from rfl]
  by_cases hl : k1_cond2 (grid1.coords t) = 1#1
  · have hf : ¬ isFirst (grid1.coords t) = 1#1 := fun h => by
      have h1 := (first1 t).mp h; have h2 := (last1 t).mp hl; omega
    rw [show idle1 2 (grid1.coords t) = false from live1_2 t hl]
    dsimp only []
    simp only [o0, o1, o2, before1_0, before1_1]
    unfold accInv
    iintro ⟨⟨⟨%a, %ha, Ha⟩, Hrest⟩, Howes, ⟨%d0, %f0, %hf0, H0⟩, ⟨%d1, %f1, %hf1, H1⟩, ⟨%d2, %f2, -, H2⟩⟩
    have ha' : a = accAt V c t.val := ha.resolve_left fun h => hf ((first1 t).mpr h)
    subst ha'
    iapply (run_last c (grid1.coords t) _ _ _ _ _ _ f0 f1 f2 _ hf hl Set.univ _)
    isplitl [H0]; · iexact H0
    isplitl [H1]; · iexact H1
    isplitl [H2]; · iexact H2
    isplitl [Ha]; · iexact Ha
    iintro ⟨%f2', %hf2, H0, H1, H2, Ha⟩
    rw [hf0, hf1, ← hacc] at hf2
    rw [hf0, hf1, ← hacc]
    isplitl [Ha Hrest]
    · isplitl [Ha]
      · iexists _; isplitr; swap; (· iexact Ha); ipureintro; exact .inr rfl
      iexact Hrest
    isplitl [Howes]; · iexact Howes
    isplitl [H0]; · iexists f0; isplitr; swap; (· iexact H0); ipureintro; exact hf0
    isplitl [H1]; · iexists f1; isplitr; swap; (· iexact H1); ipureintro; exact hf1
    iexists f2'; isplitr; swap; (· iexact H2); ipureintro; exact hf2
  · rw [show idle1 2 (grid1.coords t) = true from idle1_2 t hl]
    dsimp only []
    rw [show (win1 2).flush t = false from noflush1_2 t fun h => hl ((last1 t).mpr h)]
    dsimp only []
    simp only [o0, o1, before1_0, before1_1]
    unfold accInv
    iintro ⟨⟨⟨%a, %ha, Ha⟩, Hrest⟩, Howes, ⟨%d0, %f0, %hf0, H0⟩, ⟨%d1, %f1, %hf1, H1⟩, H2⟩
    by_cases hf : isFirst (grid1.coords t) = 1#1
    · iapply (run_first c (grid1.coords t) _ _ _ _ _ _ f0 f1 a hf hl Set.univ _)
      isplitl [H0]; · iexact H0
      isplitl [H1]; · iexact H1
      isplitl [Ha]; · iexact Ha
      iintro ⟨H0, H1, Ha⟩
      have h0 : k1_pay1 (F := F) = accAt V c t.val := by rw [(first1 t).mp hf]; rfl
      rw [hf0, hf1, h0, ← hacc]
      isplitl [Ha Hrest]
      · isplitl [Ha]
        · iexists _; isplitr; swap; (· iexact Ha); ipureintro; exact .inr rfl
        iexact Hrest
      isplitl [Howes]; · iexact Howes
      isplitl [H0]; · iexists f0; isplitr; swap; (· iexact H0); ipureintro; exact hf0
      isplitl [H1]; · iexists f1; isplitr; swap; (· iexact H1); ipureintro; exact hf1
      iexact H2
    · have ha' : a = accAt V c t.val := ha.resolve_left fun h => hf ((first1 t).mpr h)
      subst ha'
      iapply (run_mid c (grid1.coords t) _ _ _ _ _ _ f0 f1 _ hf hl Set.univ _)
      isplitl [H0]; · iexact H0
      isplitl [H1]; · iexact H1
      isplitl [Ha]; · iexact Ha
      iintro ⟨H0, H1, Ha⟩
      rw [hf0, hf1, ← hacc]
      isplitl [Ha Hrest]
      · isplitl [Ha]
        · iexists _; isplitr; swap; (· iexact Ha); ipureintro; exact .inr rfl
        iexact Hrest
      isplitl [Howes]; · iexact Howes
      isplitl [H0]; · iexists f0; isplitr; swap; (· iexact H0); ipureintro; exact hf0
      isplitl [H1]; · iexists f1; isplitr; swap; (· iexact H1); ipureintro; exact hf1
      iexact H2

end Cert.Proof.KI
-- ==== Proof.KIReg2.lean ====
module

public import proofs.«01_k».proof.Proof.KIDat1

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Row `r` of the 32 pairs of partial sums. -/
def scRow (s : S32x2x16.Idx → F .f32) (r : Fin 2) : S32x1x16.Idx → F .f32 := fun x => s (fun | 0 => x 0 | 1 => r | 2 => x 2)
/-- What the last kernel writes from the two arrays of partial sums. -/
def combine (s : S32x2x16.Idx → F .f32) (a : S2x8x128.Idx → F .f32) : S1x1.Idx → F .f32 :=
  k2_pay1 (F := F) (scRow s 0) (accRow a 0) (scRow s 1) (accRow a 1)

theorem readAt_scRow (v : View sig .tc .vmem S32x2x16 .f32) (f : v.ty.Contents (Elt F)) (r : Fin 2) {off : Fin 3 → ℕ} (inb) (h : off = ![0, r.val, 0]) :
    v.readAt (Elt F) (Rect.unit (s := S32x2x16) off S32x1x16.size inb).toLoadRect f = scRow (v.read (Elt F) f) r := by
  subst h
  funext x
  refine congrArg (v.read (Elt F) f) (funext fun b => Fin.ext ?_)
  match b with
  | 0 => show 0 + 1 * (x 0).val = (x 0).val; omega
  | 1 => have h2 : (x 1).val < 1 := (x 1).isLt; show r.val + 1 * (x 1).val = r.val; omega
  | 2 => show 0 + 1 * (x 2).val = (x 2).val; omega

theorem readAt_accRow (v : View sig .tc .vmem S2x8x128 .f32) (f : v.ty.Contents (Elt F)) (r : Fin 2) {off : Fin 3 → ℕ} (inb) (h : off = ![r.val, 0, 0]) :
    v.readAt (Elt F) (Rect.unit (s := S2x8x128) off S1x8x128.size inb).toLoadRect f = accRow (v.read (Elt F) f) r := by
  subst h
  funext x
  refine congrArg (v.read (Elt F) f) (funext fun b => Fin.ext ?_)
  match b with
  | 0 => have h2 : (x 0).val < 1 := (x 0).isLt; show r.val + 1 * (x 0).val = r.val; omega
  | 1 => show 0 + 1 * (x 1).val = (x 1).val; omega
  | 2 => show 0 + 1 * (x 2).val = (x 2).val; omega

theorem piece_one (v : View sig .tc .vmem S1x1 .f32) (f : v.ty.Contents (Elt F)) (z : S1x1.Idx → F .f32) (T : List (View.Piece (Elt F) S1x1 .f32)) (j : S1x1.Idx) :
    v.read (Elt F) (v.writes (Elt F) f (⟨Rect.unit ![0, 0] S1x1.size inb_S1x1_S1x1_0_0, z⟩ :: T)) j = z j :=
  View.read_writes_cons_unit_of_mem v f inb_S1x1_S1x1_0_0 z _ j j rfl fun b =>
    match b with
    | 0 => (Nat.zero_add _).symm
    | 1 => (Nat.zero_add _).symm

theorem run_combine (c : Dev nD)
    (M0 : Memref sig .tc .vmem S32x2x16 .f32) (h0 : M0.IsWhole) (M1 : Memref sig .tc .vmem S2x8x128 .f32) (h1 : M1.IsWhole)
    (M2 : Memref sig .tc .vmem S1x1 .f32) (h2 : M2.IsWhole)
    (f0 : Bf (F := F) c M0) (f1 : Bf (F := F) c M1) (f2 : Bf (F := F) c M2) (E : Set ℕ) (Q : PUnit → sProp 𝕄) :
        iprop(pt c M0 f0 ∗ pt c M1 f1 ∗ pt c M2 f2
          ∗ (iprop(∃ f2', ⌜M2.view.read (Elt F) f2' = combine (M0.view.read (Elt F) f0) (M1.view.read (Elt F) f1)⌝ ∗ pt c M0 f0 ∗ pt c M1 f1 ∗ pt c M2 f2') -∗ Q ⟨⟩))
          ⊢ wp frame (wpE (defs₀ (F := F)) Variants.none c none) E (cc2__combine_body M0 h0 M1 h1 M2 h2) Q := by
  rw [cc2__combine_body_eq_skeleton]
  unfold cc2__combine_body_skel
  iintro ⟨H0, H1, H2, Hk⟩
  sl_exec
  sl_step
  iapply Hk
  iexists _
  isplitr
  rotate_left
  · isplitl [H0]; · iexact H0
    isplitl [H1]; · iexact H1
    iexact H2
  ipureintro
  funext j
  refine (piece_one M2.view f2 _ _ j).trans ?_
  rw [readAt_scRow M0.view f0 0 inb_S32x2x16_S32x1x16_0_0_0 rfl, readAt_scRow M0.view f0 1 inb_S32x2x16_S32x1x16_0_1_0 rfl,
    readAt_accRow M1.view f1 0 inb_S2x8x128_S1x8x128_0_0_0 rfl, readAt_accRow M1.view f1 1 inb_S2x8x128_S1x8x128_1_0_0 rfl]
  rfl

variable (V : Dev nD → Valuation τ sig (Elt F)) (B : Dev nD → Set (SemLoc sig × HIx 1))

/-- The two arrays of partial sums as the pipeline stages them. -/
def blkS (c : Dev nD) (t : Fin cfg2.N) : S32x2x16.Idx → F .f32 := ((cfg2.win 0).blk t).view.read (Elt F) (V c main_v0)
def blkA (c : Dev nD) (t : Fin cfg2.N) : S2x8x128.Idx → F .f32 := ((cfg2.win 1).blk t).view.read (Elt F) (V c main_v3)

abbrev inv2 (c : Dev nD) : sProp 𝕄 := Pipeline.scopedRest (Ix := HIx 1) (Name := ℕ) (U := UU) (Lvl := ℕ) (Val := Elt F) spec2 c

def dat2 (c : Dev nD) : Dat τ (Elt F) (HIx 1) ℕ UU ℕ cfg2 c where
  A w := V c (Pipeline.arrRef spec2 w)
  after w t := match w with
    | ⟨0, _⟩ => blkS V c t
    | ⟨1, _⟩ => blkA V c t
    | ⟨2, _⟩ => combine (blkS V c t) (blkA V c t)
  Φ _ := inv2 c
  q _ := fullShare
  owed _ := 0
  recorded _ := B c

theorem before2_0 (c : Dev nD) (t : Fin cfg2.N) (d) : (dat2 V B c).before 0 t d = blkS V c t :=
  (dat2 V B c).before_fetched 0 t (fetch2_0 t) d
theorem before2_1 (c : Dev nD) (t : Fin cfg2.N) (d) : (dat2 V B c).before 1 t d = blkA V c t :=
  (dat2 V B c).before_fetched 1 t (fetch2_1 t) d

theorem body2 (c : Dev nD) : BodyObligation (dat2 V B c) (defs₀ (F := F)) Variants.none none Set.univ := fun t => by
  rw [bigSep_W2, bigSep_W2]
  dsimp only []
  have o0 : ∀ X, owns (c : Thread nD τ) (stage2_0 0) fullShare X = (_ : sProp 𝕄) := owns_pt c (stage2_0 0) (hstage2_0 0)
  have o1 : ∀ X, owns (c : Thread nD τ) (stage2_1 0) fullShare X = (_ : sProp 𝕄) := owns_pt c (stage2_1 0) (hstage2_1 0)
  have o2 : ∀ X, owns (c : Thread nD τ) (stage2_2 0) fullShare X = (_ : sProp 𝕄) := owns_pt c (stage2_2 0) (hstage2_2 0)
  rw [show (dat2 V B c).Φ t.castSucc = inv2 c from rfl, show (dat2 V B c).Φ t.succ = inv2 c from rfl,
    show (dat2 V B c).owesAt none t.succ = (dat2 V B c).owesAt none t.castSucc from rfl,
    show (dat2 V B c).after 0 t = blkS V c t from rfl, show (dat2 V B c).after 1 t = blkA V c t from rfl]
  simp only [o0, o1, o2, before2_0, before2_1]
  iintro ⟨Hrest, Howes, ⟨%d0, %f0, %hf0, H0⟩, ⟨%d1, %f1, %hf1, H1⟩, ⟨%d2, %f2, -, H2⟩⟩
  iapply (run_combine c (stage2_0 0) (hstage2_0 0) (stage2_1 0) (hstage2_1 0) (stage2_2 0) (hstage2_2 0) f0 f1 f2 Set.univ _)
  isplitl [H0]; · iexact H0
  isplitl [H1]; · iexact H1
  isplitl [H2]; · iexact H2
  iintro ⟨%f2', %hf2, H0, H1, H2⟩
  rw [hf0, hf1] at hf2
  isplitl [Hrest]; · iexact Hrest
  isplitl [Howes]; · iexact Howes
  isplitl [H0]; · iexists f0; isplitr; swap; (· iexact H0); ipureintro; exact hf0
  isplitl [H1]; · iexists f1; isplitr; swap; (· iexact H1); ipureintro; exact hf1
  iexists f2'; isplitr; swap; (· iexact H2); ipureintro; exact hf2

end Cert.Proof.KI
-- ==== Proof.KISegs.lean ====
module

public import proofs.«01_k».proof.Proof.KIReg2

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

abbrev adm : (p : Fin 2) → (pcfgs (F := F) p).Adm := fun p => (cfgs p).toPCfg_adm

variable (B : Dev nD → Set (SemLoc sig × HIx 1))

/-- What the TensorCore owes between the calls: nothing, its recorded waits within `B`. -/
def owesB (c : Dev nD) : sProp 𝕄 := iprop(∃ W, ⌜∀ p ∈ W, p ∈ B c⌝ ∗ owes (c : Thread nD τ) (0 : CellTallies nD τ sig (HIx 1)) W)

/-- The TensorCore's state between the calls: its unscoped buffers at a valuation, and what it owes. -/
abbrev stateAt (V : Dev nD → Valuation τ sig (Elt F)) (c : Dev nD) : sProp 𝕄 :=
  iprop(StableHlo.held (c : Thread nD τ) (Pipeline.ucRefs τ sig) (V c) ∗ owesB B c)

theorem stateAt_eq (V : Dev nD → Valuation τ sig (Elt F)) (c : Dev nD) :
    stateAt B V c = iprop(unscopedBufs c (fun b => V c b) ∗ owesB B c) := by
  rw [Pipeline.unscopedBufs_held]

variable (V1 V2 : Dev nD → Valuation τ sig (Elt F))

/-- Both regions' proof data: the accumulation's from `V1`, the combination's from `V2`. -/
def pdats : (p : Fin 2) → (c : Dev nD) → Dat τ (Elt F) (HIx 1) ℕ UU ℕ (Pipeline.pin (pcfgs (F := F)) adm p) c
  | ⟨0, _⟩ => fun c => dat1 V1 B c
  | ⟨1, _⟩ => fun c => dat2 V2 B c

abbrev Lc : GSem nD τ sig → Finset (HIx 1) := (K (F := F)).L
abbrev lvc : GSem nD τ sig → HIx 1 → ℕ := (K (F := F)).lev

variable (Vp : Dev nD → Valuation τ sig (Elt F))

theorem owesAt_of (p : Fin 2) (c : Dev nD) (t) (ho : (pdats B V1 V2 p c).owed t = 0) (hr : (pdats B V1 V2 p c).recorded t = B c) :
    (owesB B c : sProp 𝕄) ⊢ (pdats B V1 V2 p c).owesAt none t := by
  unfold owesB Pipeline.Dat.owesAt Pipeline.owesWithin
  rw [ho]
  iintro ⟨%W, %hW, HO⟩
  iexists W
  isplitr
  · ipureintro
    intro q hq
    exact Or.inl (by rw [hr]; exact hW q hq)
  iexact HO

theorem of_owesAt (hB : ∀ c s, (s, (none : HIx 1)) ∈ B c) (p : Fin 2) (c : Dev nD) (t) (ho : (pdats B V1 V2 p c).owed t = 0) (hr : (pdats B V1 V2 p c).recorded t = B c) :
    (pdats B V1 V2 p c).owesAt none t ⊢ (owesB B c : sProp 𝕄) := by
  unfold owesB Pipeline.Dat.owesAt Pipeline.owesWithin
  rw [ho]
  iintro ⟨%W, %hW, HO⟩
  iexists W
  isplitr
  · ipureintro
    intro q hq
    rcases hW hq with h | h
    · rw [hr] at h; exact h
    · obtain ⟨w, sl, rfl⟩ := h
      exact hB c _
  iexact HO

set_option backward.isDefEq.respectTransparency.types false in
/-- The accumulation as a segment of the TensorCore's program. -/
def reg1 (hB : ∀ c s, (s, (none : HIx 1)) ∈ B c) (hout : ∀ c, Vp c main_v3 = (dat1 V1 B c).arrAt 2 cfg1.N)
    (hne : ∀ c (b : Ref sig .tc), b ≠ main_v3 → Vp c b = V1 c b) :
    Pipeline.RegionSeg (pcfgs (F := F)) adm (pdats B V1 V2) none defs₀ 𝒱₀ (Lc (F := F)) (lvc (F := F)) 0 where
  win := launch1.win.to₀
  block_pos := launch1.block_pos
  stage_whole := launch1.stage_whole
  K := PEmpty
  osem k := k.elim
  ho := Pipeline.OwnSemFacts.none _
  hbody c := (body1 V1 B c).loose
  hwaits := Pipeline.hwaits_of_owed_zero _ _ _ _ (Lc (F := F)) (lvc (F := F)) 0 fun _ _ => rfl
  pre := stateAt B V1
  post := stateAt B Vp
  X _ := BI.emp
  Y _ := BI.emp
  Z c := Pipeline.unscopedRest (Ix := HIx 1) (Name := ℕ) (U := UU) (Lvl := ℕ) spec1 c fun b => V1 c b
  hentry c := by
    rw [Pipeline.ownSems0_none, stateAt_eq]
    have hsplit := Pipeline.arrays_of_unscopedBufs (p := 0) (pcfgs (F := F)) adm (pdats B V1 V2) launch1.win launch1.arr_whole c
      ((pdats B V1 V2 0 c).share_full fun _ => rfl) (fun b => V1 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of B V1 V2 0 c 0 rfl rfl); iexact HO
    isplitr; · iempintro
    iexact Hrest
  hin c := by
    rw [show (pdats B V1 V2 0 c).Φ 0 = accInv V1 c 0 from rfl, show (Pipeline.pin (pcfgs (F := F)) adm 0).spec = spec1 from rfl, scopedRest1_eq]
    unfold accInv others1
    iintro ⟨-, -, ⟨%a, Ha⟩, Hr⟩
    isplitl [Ha]
    · iexists a; isplitr; swap; (· iexact Ha); ipureintro; exact .inl rfl
    iexact Hr
  hout c := by
    rw [Pipeline.ownSems0_none, show (pdats B V1 V2 0 c).Φ (Fin.last _) = accInv V1 c cfg1.N from rfl, show (Pipeline.pin (pcfgs (F := F)) adm 0).spec = spec1 from rfl, scopedRest1_eq]
    unfold accInv others1
    iintro ⟨⟨%a, -, Ha⟩, Hr⟩
    isplitr; · iempintro
    isplitr; · iempintro
    isplitl [Ha]; · iexists a; iexact Ha
    iexact Hr
  hexit c := by
    have hjoin := Pipeline.unscopedBufs_of_arrays (p := 0) (pcfgs (F := F)) adm (Ix := HIx 1) (Name := ℕ) (U := UU) (Lvl := ℕ) launch1.win launch1.arr_whole c
      (pdats B V1 V2) ((pdats B V1 V2 0 c).share_full fun _ => rfl) (fun b => V1 c b) (fun b => Vp c b) ((pdats B V1 V2 0 c).arrAt · cfg1.N)
      (fun w => by
        fin_cases w
        · exact ((pdats B V1 V2 0 c).arrAt_in 0 rfl _).trans (hne c main_v1 (by decide)).symm
        · exact ((pdats B V1 V2 0 c).arrAt_in 1 rfl _).trans (hne c main_v2 (by decide)).symm
        · exact (hout c).symm)
      (fun b hb => hne c b fun h => hb (h ▸ Finset.mem_image.mpr ⟨2, Finset.mem_univ _, rfl⟩))
    rw [stateAt_eq]
    iintro ⟨Ha, HO, -, Hrest⟩
    imodintro
    isplitl [Ha Hrest]
    · iapply hjoin; isplitl [Ha] <;> iassumption
    iapply (of_owesAt B V1 V2 hB 0 c _ rfl rfl); iexact HO

set_option backward.isDefEq.respectTransparency.types false in
/-- The combination as a segment of the TensorCore's program. -/
def reg2 (hB : ∀ c s, (s, (none : HIx 1)) ∈ B c) (hout : ∀ c, Vp c main_v4 = (dat2 V2 B c).arrAt 2 cfg2.N)
    (hne : ∀ c (b : Ref sig .tc), b ≠ main_v4 → Vp c b = V2 c b) :
    Pipeline.RegionSeg (pcfgs (F := F)) adm (pdats B V1 V2) none defs₀ 𝒱₀ (Lc (F := F)) (lvc (F := F)) 1 where
  win := launch2.win.to₀
  block_pos := launch2.block_pos
  stage_whole := launch2.stage_whole
  K := PEmpty
  osem k := k.elim
  ho := Pipeline.OwnSemFacts.none _
  hbody c := (body2 V2 B c).loose
  hwaits := Pipeline.hwaits_of_owed_zero _ _ _ _ (Lc (F := F)) (lvc (F := F)) 1 fun _ _ => rfl
  pre := stateAt B V2
  post := stateAt B Vp
  X _ := BI.emp
  Y _ := BI.emp
  Z c := Pipeline.unscopedRest (Ix := HIx 1) (Name := ℕ) (U := UU) (Lvl := ℕ) spec2 c fun b => V2 c b
  hentry c := by
    rw [Pipeline.ownSems0_none, stateAt_eq]
    have hsplit := Pipeline.arrays_of_unscopedBufs (p := 1) (pcfgs (F := F)) adm (pdats B V1 V2) launch2.win launch2.arr_whole c
      ((pdats B V1 V2 1 c).share_full fun _ => rfl) (fun b => V2 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of B V1 V2 1 c 0 rfl rfl); iexact HO
    isplitr; · iempintro
    iexact Hrest
  hin c := by
    rw [show (pdats B V1 V2 1 c).Φ 0 = inv2 c from rfl]
    iintro ⟨-, -, Hr⟩; iexact Hr
  hout c := by
    rw [Pipeline.ownSems0_none, show (pdats B V1 V2 1 c).Φ (Fin.last _) = inv2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats B V1 V2) ((pdats B V1 V2 1 c).share_full fun _ => rfl) (fun b => V2 c b) (fun b => Vp c b) ((pdats B V1 V2 1 c).arrAt · cfg2.N)
      (fun w => by
        fin_cases w
        · exact ((pdats B V1 V2 1 c).arrAt_in 0 rfl _).trans (hne c main_v0 (by decide)).symm
        · exact ((pdats B V1 V2 1 c).arrAt_in 1 rfl _).trans (hne c main_v3 (by decide)).symm
        · exact (hout c).symm)
      (fun b hb => hne c b fun h => hb (h ▸ Finset.mem_image.mpr ⟨2, Finset.mem_univ _, rfl⟩))
    rw [stateAt_eq]
    iintro ⟨Ha, HO, -, Hrest⟩
    imodintro
    isplitl [Ha Hrest]
    · iapply hjoin; isplitl [Ha] <;> iassumption
    iapply (of_owesAt B V1 V2 hB 1 c _ rfl rfl); iexact HO

end Cert.Proof.KI
-- ==== Proof.KITrip.lean ====
module

public import proofs.«01_k».proof.Proof.KIBase

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The sixteen registers a tile carries: eight sums of weights, then eight sums of weighted squares. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Sixteen consecutive entries of a chunk, from entry `o` on. -/
def rd (f : S8192.Idx → F .f32) (o : ℕ) : FVec F S16 .f32 := fun j => f fun a => ⟨(o + (j 0).val) % 8192, by fin_cases a; exact Nat.mod_lt _ (by norm_num)⟩

/-- One trip of a chunk's loop: register `r` of each half takes in the sixteen entries from `128·k + 16·r` on. -/
def stepAcc (p g : S8192.Idx → F .f32) (k : ℕ) : Acc F → Acc F :=
  fun (a0, a1, a2, a3, a4, a5, a6, a7, b0, b1, b2, b3, b4, b5, b6, b7) =>
    (k0_pay5 a0 (rd g (128 * k + 0)), k0_pay5 a1 (rd g (128 * k + 16)), k0_pay5 a2 (rd g (128 * k + 32)), k0_pay5 a3 (rd g (128 * k + 48)),
      k0_pay5 a4 (rd g (128 * k + 64)), k0_pay5 a5 (rd g (128 * k + 80)), k0_pay5 a6 (rd g (128 * k + 96)), k0_pay5 a7 (rd g (128 * k + 112)),
      k0_pay6 b0 (rd p (128 * k + 0)) (rd g (128 * k + 0)), k0_pay6 b1 (rd p (128 * k + 16)) (rd g (128 * k + 16)),
      k0_pay6 b2 (rd p (128 * k + 32)) (rd g (128 * k + 32)), k0_pay6 b3 (rd p (128 * k + 48)) (rd g (128 * k + 48)),
      k0_pay6 b4 (rd p (128 * k + 64)) (rd g (128 * k + 64)), k0_pay6 b5 (rd p (128 * k + 80)) (rd g (128 * k + 80)),
      k0_pay6 b6 (rd p (128 * k + 96)) (rd g (128 * k + 96)), k0_pay6 b7 (rd p (128 * k + 112)) (rd g (128 * k + 112)))

/-- The offset of a register's entries on a trip of the loop over a chunk. -/
theorem off4_eq (k : Fin k0_t2_loop.trips) (c : ℕ) (hc : c < 128) : k0_off4 k (BitVec.ofNat 32 c) 0 = 128 * k.val + c := by
  have hk : k.val < 64 := k.isLt
  simp only [k0_off4, Scf.iv, Scalar.muli, Scalar.addi, IntOp.muli, IntOp.addi, Scalar.indexCast, Matrix.cons_val_zero]
  simp [BitVec.toNat_add, BitVec.toNat_mul]
  omega

theorem off6_eq (k : Fin k0_t3_loop.trips) (c : ℕ) (hc : c < 128) : k0_off6 k (BitVec.ofNat 32 c) 0 = 128 * k.val + c := by
  have hk : k.val < 64 := k.isLt
  simp only [k0_off6, Scf.iv, Scalar.muli, Scalar.addi, IntOp.muli, IntOp.addi, Scalar.indexCast, Matrix.cons_val_zero]
  simp [BitVec.toNat_add, BitVec.toNat_mul]
  omega

theorem off7_eq (k : Fin k0_t4_loop.trips) (c : ℕ) (hc : c < 128) : k0_off7 k (BitVec.ofNat 32 c) 0 = 128 * k.val + c := by
  have hk : k.val < 64 := k.isLt
  simp only [k0_off7, Scf.iv, Scalar.muli, Scalar.addi, IntOp.muli, IntOp.addi, Scalar.indexCast, Matrix.cons_val_zero]
  simp [BitVec.toNat_add, BitVec.toNat_mul]
  omega

theorem off8_eq (k : Fin k0_t5_loop.trips) (c : ℕ) (hc : c < 128) : k0_off8 k (BitVec.ofNat 32 c) 0 = 128 * k.val + c := by
  have hk : k.val < 64 := k.isLt
  simp only [k0_off8, Scf.iv, Scalar.muli, Scalar.addi, IntOp.muli, IntOp.addi, Scalar.indexCast, Matrix.cons_val_zero]
  simp [BitVec.toNat_add, BitVec.toNat_mul]
  omega

/-- Sixteen entries loaded from a chunk's buffer. -/
theorem readAt_p0 (f : S8192.Idx → F .f32) (off : Fin 1 → ℕ) (h) (o : ℕ) (ho : off 0 = o) :
    View.readAt (Elt F) p0.view (Rect.unit (s := S8192) off S16.size h).toLoadRect f = rd f o := by
  funext j
  show f _ = f _
  congr 1
  funext a
  fin_cases a
  apply Fin.ext
  have h0 : off 0 + 16 ≤ 8192 := h 0
  have hj : (j 0).val < 16 := (j 0).isLt
  subst ho
  show off 0 + 1 * (j 0).val = (off 0 + (j 0).val) % 8192
  omega

theorem readAt_g0 (f : S8192.Idx → F .f32) (off : Fin 1 → ℕ) (h) (o : ℕ) (ho : off 0 = o) :
    View.readAt (Elt F) g0.view (Rect.unit (s := S8192) off S16.size h).toLoadRect f = rd f o := by
  funext j
  show f _ = f _
  congr 1
  funext a
  fin_cases a
  apply Fin.ext
  have h0 : off 0 + 16 ≤ 8192 := h 0
  have hj : (j 0).val < 16 := (j 0).isLt
  subst ho
  show off 0 + 1 * (j 0).val = (off 0 + (j 0).val) % 8192
  omega

theorem readAt_p1 (f : S8192.Idx → F .f32) (off : Fin 1 → ℕ) (h) (o : ℕ) (ho : off 0 = o) :
    View.readAt (Elt F) p1.view (Rect.unit (s := S8192) off S16.size h).toLoadRect f = rd f o := by
  funext j
  show f _ = f _
  congr 1
  funext a
  fin_cases a
  apply Fin.ext
  have h0 : off 0 + 16 ≤ 8192 := h 0
  have hj : (j 0).val < 16 := (j 0).isLt
  subst ho
  show off 0 + 1 * (j 0).val = (off 0 + (j 0).val) % 8192
  omega

theorem readAt_g1 (f : S8192.Idx → F .f32) (off : Fin 1 → ℕ) (h) (o : ℕ) (ho : off 0 = o) :
    View.readAt (Elt F) g1.view (Rect.unit (s := S8192) off S16.size h).toLoadRect f = rd f o := by
  funext j
  show f _ = f _
  congr 1
  funext a
  fin_cases a
  apply Fin.ext
  have h0 : off 0 + 16 ≤ 8192 := h 0
  have hj : (j 0).val < 16 := (j 0).isLt
  subst ho
  show off 0 + 1 * (j 0).val = (off 0 + (j 0).val) % 8192
  omega

section Trip

variable (d : Dev nD) (L : grid0.Coords)

abbrev thr : Thread nD τ := V d (cV L) (jV L)

/-- A trip of the loop over the first chunk of a pair. -/
theorem trip2 (k : Fin k0_t2_loop.trips) (acc : Acc F) (fp fg : S8192.Idx → F .f32) :
    iprop((p0.view.loc (thr d L) ↦{fullShare} fp) ∗ (g0.view.loc (thr d L) ↦{fullShare} fg))
      ⊢@{sProp 𝕄} wp frame (wpE (defs₀ (F := F)) 𝒱₀ (thr d L) none) Set.univ
          (k0_t2_body L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0 k acc)
          fun acc' => iprop(⌜acc' = stepAcc fp fg k.val acc⌝ ∗ (p0.view.loc (thr d L) ↦{fullShare} fp) ∗ (g0.view.loc (thr d L) ↦{fullShare} fg)) := by
  obtain ⟨a0, a1, a2, a3, a4, a5, a6, a7, b0, b1, b2, b3, b4, b5, b6, b7⟩ := acc
  unfold k0_t2_body
  rw [k0_part1_eq_skeleton, k0_part2_eq_skeleton, k0_part3_eq_skeleton]
  unfold k0_part1_skel k0_part2_skel k0_part3_skel
  iintro ⟨Hp, Hg⟩
  sl_exec
  sl_step
  isplitr
  · ipureintro
    rw [readAt_p0 fp (k0_off4 k 0#32) _ _ (off4_eq k 0 (by norm_num)), readAt_g0 fg (k0_off4 k 0#32) _ _ (off4_eq k 0 (by norm_num)),
    readAt_p0 fp (k0_off4 k 16#32) _ _ (off4_eq k 16 (by norm_num)), readAt_g0 fg (k0_off4 k 16#32) _ _ (off4_eq k 16 (by norm_num)),
    readAt_p0 fp (k0_off4 k 32#32) _ _ (off4_eq k 32 (by norm_num)), readAt_g0 fg (k0_off4 k 32#32) _ _ (off4_eq k 32 (by norm_num)),
    readAt_p0 fp (k0_off4 k 48#32) _ _ (off4_eq k 48 (by norm_num)), readAt_g0 fg (k0_off4 k 48#32) _ _ (off4_eq k 48 (by norm_num)),
    readAt_p0 fp (k0_off4 k 64#32) _ _ (off4_eq k 64 (by norm_num)), readAt_g0 fg (k0_off4 k 64#32) _ _ (off4_eq k 64 (by norm_num)),
    readAt_p0 fp (k0_off4 k 80#32) _ _ (off4_eq k 80 (by norm_num)), readAt_g0 fg (k0_off4 k 80#32) _ _ (off4_eq k 80 (by norm_num)),
    readAt_p0 fp (k0_off4 k 96#32) _ _ (off4_eq k 96 (by norm_num)), readAt_g0 fg (k0_off4 k 96#32) _ _ (off4_eq k 96 (by norm_num)),
    readAt_p0 fp (k0_off4 k 112#32) _ _ (off4_eq k 112 (by norm_num)), readAt_g0 fg (k0_off4 k 112#32) _ _ (off4_eq k 112 (by norm_num))]
    rfl
  isplitl [Hp] <;> iassumption

/-- A trip of the loop over the second chunk of a pair. -/
theorem trip3 (k : Fin k0_t3_loop.trips) (acc : Acc F) (fp fg : S8192.Idx → F .f32) :
    iprop((p1.view.loc (thr d L) ↦{fullShare} fp) ∗ (g1.view.loc (thr d L) ↦{fullShare} fg))
      ⊢@{sProp 𝕄} wp frame (wpE (defs₀ (F := F)) 𝒱₀ (thr d L) none) Set.univ
          (k0_t3_body L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0 k acc)
          fun acc' => iprop(⌜acc' = stepAcc fp fg k.val acc⌝ ∗ (p1.view.loc (thr d L) ↦{fullShare} fp) ∗ (g1.view.loc (thr d L) ↦{fullShare} fg)) := by
  obtain ⟨a0, a1, a2, a3, a4, a5, a6, a7, b0, b1, b2, b3, b4, b5, b6, b7⟩ := acc
  unfold k0_t3_body
  rw [k0_part4_eq_skeleton, k0_part5_eq_skeleton, k0_part6_eq_skeleton]
  unfold k0_part4_skel k0_part5_skel k0_part6_skel
  iintro ⟨Hp, Hg⟩
  sl_exec
  sl_step
  isplitr
  · ipureintro
    rw [readAt_p1 fp (k0_off6 k 0#32) _ _ (off6_eq k 0 (by norm_num)), readAt_g1 fg (k0_off6 k 0#32) _ _ (off6_eq k 0 (by norm_num)),
    readAt_p1 fp (k0_off6 k 16#32) _ _ (off6_eq k 16 (by norm_num)), readAt_g1 fg (k0_off6 k 16#32) _ _ (off6_eq k 16 (by norm_num)),
    readAt_p1 fp (k0_off6 k 32#32) _ _ (off6_eq k 32 (by norm_num)), readAt_g1 fg (k0_off6 k 32#32) _ _ (off6_eq k 32 (by norm_num)),
    readAt_p1 fp (k0_off6 k 48#32) _ _ (off6_eq k 48 (by norm_num)), readAt_g1 fg (k0_off6 k 48#32) _ _ (off6_eq k 48 (by norm_num)),
    readAt_p1 fp (k0_off6 k 64#32) _ _ (off6_eq k 64 (by norm_num)), readAt_g1 fg (k0_off6 k 64#32) _ _ (off6_eq k 64 (by norm_num)),
    readAt_p1 fp (k0_off6 k 80#32) _ _ (off6_eq k 80 (by norm_num)), readAt_g1 fg (k0_off6 k 80#32) _ _ (off6_eq k 80 (by norm_num)),
    readAt_p1 fp (k0_off6 k 96#32) _ _ (off6_eq k 96 (by norm_num)), readAt_g1 fg (k0_off6 k 96#32) _ _ (off6_eq k 96 (by norm_num)),
    readAt_p1 fp (k0_off6 k 112#32) _ _ (off6_eq k 112 (by norm_num)), readAt_g1 fg (k0_off6 k 112#32) _ _ (off6_eq k 112 (by norm_num))]
    rfl
  isplitl [Hp] <;> iassumption

/-- A trip of the loop over the last chunk but one. -/
theorem trip4 (k : Fin k0_t4_loop.trips) (acc : Acc F) (fp fg : S8192.Idx → F .f32) :
    iprop((p0.view.loc (thr d L) ↦{fullShare} fp) ∗ (g0.view.loc (thr d L) ↦{fullShare} fg))
      ⊢@{sProp 𝕄} wp frame (wpE (defs₀ (F := F)) 𝒱₀ (thr d L) none) Set.univ
          (k0_t4_body L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0 k acc)
          fun acc' => iprop(⌜acc' = stepAcc fp fg k.val acc⌝ ∗ (p0.view.loc (thr d L) ↦{fullShare} fp) ∗ (g0.view.loc (thr d L) ↦{fullShare} fg)) := by
  obtain ⟨a0, a1, a2, a3, a4, a5, a6, a7, b0, b1, b2, b3, b4, b5, b6, b7⟩ := acc
  unfold k0_t4_body
  rw [k0_part7_eq_skeleton, k0_part8_eq_skeleton, k0_part9_eq_skeleton]
  unfold k0_part7_skel k0_part8_skel k0_part9_skel
  iintro ⟨Hp, Hg⟩
  sl_exec
  sl_step
  isplitr
  · ipureintro
    rw [readAt_p0 fp (k0_off7 k 0#32) _ _ (off7_eq k 0 (by norm_num)), readAt_g0 fg (k0_off7 k 0#32) _ _ (off7_eq k 0 (by norm_num)),
    readAt_p0 fp (k0_off7 k 16#32) _ _ (off7_eq k 16 (by norm_num)), readAt_g0 fg (k0_off7 k 16#32) _ _ (off7_eq k 16 (by norm_num)),
    readAt_p0 fp (k0_off7 k 32#32) _ _ (off7_eq k 32 (by norm_num)), readAt_g0 fg (k0_off7 k 32#32) _ _ (off7_eq k 32 (by norm_num)),
    readAt_p0 fp (k0_off7 k 48#32) _ _ (off7_eq k 48 (by norm_num)), readAt_g0 fg (k0_off7 k 48#32) _ _ (off7_eq k 48 (by norm_num)),
    readAt_p0 fp (k0_off7 k 64#32) _ _ (off7_eq k 64 (by norm_num)), readAt_g0 fg (k0_off7 k 64#32) _ _ (off7_eq k 64 (by norm_num)),
    readAt_p0 fp (k0_off7 k 80#32) _ _ (off7_eq k 80 (by norm_num)), readAt_g0 fg (k0_off7 k 80#32) _ _ (off7_eq k 80 (by norm_num)),
    readAt_p0 fp (k0_off7 k 96#32) _ _ (off7_eq k 96 (by norm_num)), readAt_g0 fg (k0_off7 k 96#32) _ _ (off7_eq k 96 (by norm_num)),
    readAt_p0 fp (k0_off7 k 112#32) _ _ (off7_eq k 112 (by norm_num)), readAt_g0 fg (k0_off7 k 112#32) _ _ (off7_eq k 112 (by norm_num))]
    rfl
  isplitl [Hp] <;> iassumption

/-- A trip of the loop over the last chunk. -/
theorem trip5 (k : Fin k0_t5_loop.trips) (acc : Acc F) (fp fg : S8192.Idx → F .f32) :
    iprop((p1.view.loc (thr d L) ↦{fullShare} fp) ∗ (g1.view.loc (thr d L) ↦{fullShare} fg))
      ⊢@{sProp 𝕄} wp frame (wpE (defs₀ (F := F)) 𝒱₀ (thr d L) none) Set.univ
          (k0_t5_body L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0 k acc)
          fun acc' => iprop(⌜acc' = stepAcc fp fg k.val acc⌝ ∗ (p1.view.loc (thr d L) ↦{fullShare} fp) ∗ (g1.view.loc (thr d L) ↦{fullShare} fg)) := by
  obtain ⟨a0, a1, a2, a3, a4, a5, a6, a7, b0, b1, b2, b3, b4, b5, b6, b7⟩ := acc
  unfold k0_t5_body
  rw [k0_part10_eq_skeleton, k0_part11_eq_skeleton, k0_part12_eq_skeleton]
  unfold k0_part10_skel k0_part11_skel k0_part12_skel
  iintro ⟨Hp, Hg⟩
  sl_exec
  sl_step
  isplitr
  · ipureintro
    rw [readAt_p1 fp (k0_off8 k 0#32) _ _ (off8_eq k 0 (by norm_num)), readAt_g1 fg (k0_off8 k 0#32) _ _ (off8_eq k 0 (by norm_num)),
    readAt_p1 fp (k0_off8 k 16#32) _ _ (off8_eq k 16 (by norm_num)), readAt_g1 fg (k0_off8 k 16#32) _ _ (off8_eq k 16 (by norm_num)),
    readAt_p1 fp (k0_off8 k 32#32) _ _ (off8_eq k 32 (by norm_num)), readAt_g1 fg (k0_off8 k 32#32) _ _ (off8_eq k 32 (by norm_num)),
    readAt_p1 fp (k0_off8 k 48#32) _ _ (off8_eq k 48 (by norm_num)), readAt_g1 fg (k0_off8 k 48#32) _ _ (off8_eq k 48 (by norm_num)),
    readAt_p1 fp (k0_off8 k 64#32) _ _ (off8_eq k 64 (by norm_num)), readAt_g1 fg (k0_off8 k 64#32) _ _ (off8_eq k 64 (by norm_num)),
    readAt_p1 fp (k0_off8 k 80#32) _ _ (off8_eq k 80 (by norm_num)), readAt_g1 fg (k0_off8 k 80#32) _ _ (off8_eq k 80 (by norm_num)),
    readAt_p1 fp (k0_off8 k 96#32) _ _ (off8_eq k 96 (by norm_num)), readAt_g1 fg (k0_off8 k 96#32) _ _ (off8_eq k 96 (by norm_num)),
    readAt_p1 fp (k0_off8 k 112#32) _ _ (off8_eq k 112 (by norm_num)), readAt_g1 fg (k0_off8 k 112#32) _ _ (off8_eq k 112 (by norm_num))]
    rfl
  isplitl [Hp] <;> iassumption

end Trip

end Cert.Proof.KI
-- ==== Proof.KISlot.lean ====
module

public import proofs.«01_k».proof.Proof.KITrip
public import Idealize.ShloMosaic.Lib.ShareLeaves

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The chunks of the two arrays, and the copies of them in flight -/

/-- The 8192 entries of an array from entry `n` on. -/
def chunk (P : S8388608.Idx → F .f32) (n : ℕ) : S8192.Idx → F .f32 := fun j => P fun a => ⟨(n + (j 0).val) % 8388608, by fin_cases a; exact Nat.mod_lt _ (by norm_num)⟩

/-- The last place a chunk can start. -/
def cl (n : ℕ) : ℕ := min n 8380416

theorem cl_of_le {n : ℕ} (h : n + 8192 ≤ 8388608) : cl n = n := min_eq_left (by omega)

theorem cl_inb (n : ℕ) : ∀ a, (![cl n] : Fin 1 → ℕ) a + S8192.size a ≤ S8388608.size a := by
  intro a; fin_cases a
  show min n 8380416 + 8192 ≤ 8388608
  have := min_le_right n 8380416
  omega

/-- The chunk of `y_pred` at an offset, as a copy names it. -/
abbrev srcP (off : Fin 1 → ℕ) (h : ∀ a, off a + S8192.size a ≤ S8388608.size a) : Memref sig .scVector .hbm S8192 .f32 :=
  pV.slice (Rect.unit (s := S8388608) off S8192.size h) (fun _ => rfl)
/-- The chunk of `y_gt` at an offset, as a copy names it. -/
abbrev srcG (off : Fin 1 → ℕ) (h : ∀ a, off a + S8192.size a ≤ S8388608.size a) : Memref sig .scVector .hbm S8192 .f32 :=
  gV.slice (Rect.unit (s := S8388608) off S8192.size h) (fun _ => rfl)

theorem read_srcP (P : S8388608.Idx → F .f32) (n : ℕ) :
    (srcP ![cl n] (cl_inb n)).view.read (Elt F) P = chunk P (cl n) := by
  funext j
  show P _ = P _
  congr 1
  funext a
  fin_cases a
  apply Fin.ext
  have hj : (j 0).val < 8192 := (j 0).isLt
  have hn : cl n ≤ 8380416 := min_le_right _ _
  show cl n + 1 * (j 0).val = (cl n + (j 0).val) % 8388608
  omega

theorem read_srcG (P : S8388608.Idx → F .f32) (n : ℕ) :
    (srcG ![cl n] (cl_inb n)).view.read (Elt F) P = chunk P (cl n) := read_srcP P n

section Slot

variable (d : Dev nD) (L : grid0.Coords) (q : PosShare TreeShare) (P G : S8388608.Idx → F .f32)

/-- The credit of one chunk's copy. -/
def chunkN : ℕ := p0.view.amount (SemLoc.dma cc0_scratch5.sem)

theorem chunkN_pos : 0 < chunkN := by
  unfold chunkN; exact View.amount_pos _ _ (show 0 < S8192.numel by decide)

theorem credit_p0 : p0.view.dmaCredit = chunkN := rfl
theorem credit_p1 : p1.view.dmaCredit = chunkN := rfl
theorem credit_g0 : g0.view.dmaCredit = chunkN := rfl
theorem credit_g1 : g1.view.dmaCredit = chunkN := rfl

/-! ### Slot 0 -/

/-- What slot 0's two copies deliver: the chunk in the slot's buffer, and the part of the array it was read from. -/
def dlv0 (n : ℕ) : Fin 2 → sProp 𝕄
  | 0 => iprop((p0.view.loc (thr d L) ↦{fullShare} chunk P (cl n)) ∗ ((srcP ![cl n] (cl_inb n)).view.loc (thr d L) ↦[(srcP ![cl n] (cl_inb n)).view.set]{q} P))
  | 1 => iprop((g0.view.loc (thr d L) ↦{fullShare} chunk G (cl n)) ∗ ((srcG ![cl n] (cl_inb n)).view.loc (thr d L) ↦[(srcG ![cl n] (cl_inb n)).view.set]{q} G))

instance dlv0_storable (n : ℕ) (t : Fin 2) : Storable (upEmb : UEmb _ 𝕄) (dlv0 (F := F) d L q P G n t) := by
  unfold dlv0; fin_cases t <;> infer_instance

/-- What slot 0 keeps at rest beside its buffers: both arrays readable, the counter at zero. -/
def rest0 : sProp 𝕄 :=
  iprop((pV.view.loc (thr d L) ↦{q} P) ∗ (gV.view.loc (thr d L) ↦{q} G) ∗ semVal (thr d L, SemLoc.dma cc0_scratch5.sem) 0)

/-- Slot 0 at rest: both arrays readable, both buffers and the counter in hand. -/
def idle0 (fp fg : S8192.Idx → F .f32) : sProp 𝕄 :=
  iprop((p0.view.loc (thr d L) ↦{fullShare} fp) ∗ (g0.view.loc (thr d L) ↦{fullShare} fg) ∗ rest0 d L q P G)

/-- Slot 0 with `y_pred`'s copy of the chunk at `n` issued. -/
def mid0 (n : ℕ) (fg : S8192.Idx → F .f32) : sProp 𝕄 :=
  iprop((g0.view.loc (thr d L) ↦{fullShare} fg)
    ∗ Transfers.Batch (countersEmb (U := UU)) (thr d L) (SemLoc.dma cc0_scratch5.sem) (default : HIx 1) chunkN (dlv0 d L q P G n) 1 0
    ∗ (pV.view.loc (thr d L) ↦[Finset.univ \ (srcP ![cl n] (cl_inb n)).view.set]{q} P) ∗ (gV.view.loc (thr d L) ↦{q} G))

/-- Slot 0 with both copies of the chunk at `n` issued, and `u` units of their credit consumed. -/
def busy0 (n u : ℕ) : sProp 𝕄 :=
  iprop(Transfers.Batch (countersEmb (U := UU)) (thr d L) (SemLoc.dma cc0_scratch5.sem) (default : HIx 1) chunkN (dlv0 d L q P G n) 2 u
    ∗ (pV.view.loc (thr d L) ↦[Finset.univ \ (srcP ![cl n] (cl_inb n)).view.set]{q} P)
    ∗ (gV.view.loc (thr d L) ↦[Finset.univ \ (srcG ![cl n] (cl_inb n)).view.set]{q} G))

theorem issueP0 {α : Type} {Q : α → sProp 𝕄} {k : PUnit → Prog (TpuEff nD τ sig (Elt F) Λ₀ (thr d L).2) α} (n : ℕ) (fp fg : S8192.Idx → F .f32)
    (off : Fin 1 → ℕ) (h : ∀ a, off a + S8192.size a ≤ S8388608.size a) (ho : off = ![cl n]) {h1 h2 h3} :
    idle0 (F := F) d L q P G fp fg
      ⊢ iprop((mid0 d L q P G n fg -∗ wp frame (wpE (defs₀ (F := F)) 𝒱₀ (thr d L) none) Set.univ (k ⟨⟩) Q)
          -∗ wp frame (wpE (defs₀ (F := F)) 𝒱₀ (thr d L) none) Set.univ
              (.op (.enqueueDma (srcP off h) (.here p0) (.dma cc0_scratch5.sem) h1 h2 h3) k) Q) := by
  subst ho
  unfold idle0 mid0 rest0
  iintro ⟨Hp, Hg, HP, HG, Hsem⟩ Hk
  imod (Transfers.batch_alloc' (Lvl := ℕ) (countersEmb (U := UU)) (thr d L) (default : HIx 1) chunkN (dlv0 d L q P G n) (sm := .dma cc0_scratch5.sem) (E := Set.univ)) $$ Hsem with HB
  ihave HP' := (pointsTo_split_subset (Finset.subset_univ (srcP ![cl n] (cl_inb n)).view.set)).1 $$ HP
  icases HP' with ⟨Hs, Hrest⟩
  iapply (Transfers.wp_dmaBatch (countersEmb (U := UU)) 𝒱₀ (thr d L) none (src := srcP ![cl n] h) (via := .same) (dst := p0) (q := q) (fs := P) (fd := fp)
    (Sd := Finset.univ) (D := dlv0 d L q P G n) (j := 0) (u := 0) (default : HIx 1) chunkN rfl (Finset.subset_univ _) (by norm_num) (by norm_num)
    (Entails.of_eq (by rw [show (ReadAs.same (Val := Elt F) (s := S8192) (e := .f32)).apply ((srcP ![cl n] h).view.read (Elt F) P) = chunk P (cl n) from read_srcP P n]; rw [show p0.view.write (Elt F) fp (chunk P (cl n)) Finset.univ = chunk P (cl n) from View.write_whole_univ ..]; rfl))) $$ [Hs Hp HB]
  · isplitl [Hs]; · iexact Hs
    isplitl [Hp]; · iexact Hp
    iexact HB
  iintro HB
  iapply Hk
  isplitl [Hg]; · iexact Hg
  isplitl [HB]; · iexact HB
  isplitl [Hrest]; · iexact Hrest
  iexact HG

theorem issueG0 {α : Type} {Q : α → sProp 𝕄} {k : PUnit → Prog (TpuEff nD τ sig (Elt F) Λ₀ (thr d L).2) α} (n : ℕ) (fg : S8192.Idx → F .f32)
    (off : Fin 1 → ℕ) (h : ∀ a, off a + S8192.size a ≤ S8388608.size a) (ho : off = ![cl n]) {h1 h2 h3} :
    mid0 (F := F) d L q P G n fg
      ⊢ iprop((busy0 d L q P G n 0 -∗ wp frame (wpE (defs₀ (F := F)) 𝒱₀ (thr d L) none) Set.univ (k ⟨⟩) Q)
          -∗ wp frame (wpE (defs₀ (F := F)) 𝒱₀ (thr d L) none) Set.univ
              (.op (.enqueueDma (srcG off h) (.here g0) (.dma cc0_scratch5.sem) h1 h2 h3) k) Q) := by
  subst ho
  unfold mid0 busy0
  iintro ⟨Hg, HB, HP, HG⟩ Hk
  ihave HG' := (pointsTo_split_subset (Finset.subset_univ (srcG ![cl n] (cl_inb n)).view.set)).1 $$ HG
  icases HG' with ⟨Hs, Hrest⟩
  iapply (Transfers.wp_dmaBatch (countersEmb (U := UU)) 𝒱₀ (thr d L) none (src := srcG ![cl n] h) (via := .same) (dst := g0) (q := q) (fs := G) (fd := fg)
    (Sd := Finset.univ) (D := dlv0 d L q P G n) (j := 1) (u := 0) (default : HIx 1) chunkN rfl (Finset.subset_univ _) (by norm_num) (Nat.zero_le _)
    (Entails.of_eq (by rw [show (ReadAs.same (Val := Elt F) (s := S8192) (e := .f32)).apply ((srcG ![cl n] h).view.read (Elt F) G) = chunk G (cl n) from read_srcG G n]; rw [show g0.view.write (Elt F) fg (chunk G (cl n)) Finset.univ = chunk G (cl n) from View.write_whole_univ ..]; rfl))) $$ [Hs Hg HB]
  · isplitl [Hs]; · iexact Hs
    isplitl [Hg]; · iexact Hg
    iexact HB
  iintro HB
  iapply Hk
  isplitl [HB]; · iexact HB
  isplitl [HP]; · iexact HP
  iexact Hrest

theorem waitA0 {α : Type} {Q : α → sProp 𝕄} {k : PUnit → Prog (TpuEff nD τ sig (Elt F) Λ₀ (thr d L).2) α} (n : ℕ)
    {src : Memref sig .scVector .hbm S8192 .f32} {h1 h2} {O : CellTallies nD τ sig (HIx 1)} {W : Waits sig (HIx 1)} :
    iprop(Transfers.MayWaits (thr d L) (default : HIx 1) O ∗ busy0 (F := F) d L q P G n 0 ∗ owes (thr d L) O W)
      ⊢ iprop((iprop(busy0 d L q P G n chunkN ∗ owes (thr d L) O (insert (SemLoc.dma cc0_scratch5.sem, (default : HIx 1)) W))
              -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch5.sem src p0 h1 h2) k) Q) := by
  unfold busy0
  iintro ⟨Hmw, ⟨HB, HP, HG⟩, HO⟩ Hk
  ihave Hm := (Transfers.MayWaits.elim (SemLoc.dma cc0_scratch5.sem)) $$ Hmw
  iapply (Transfers.wp_waitBatchO (countersEmb (U := UU)) 𝒱₀ (thr d L) none (default : HIx 1) (N := chunkN) credit_p0 (D := dlv0 d L q P G n) (u := 0) (by have := chunkN_pos; omega)) $$ [HB HO Hm]
  · isplitl [HB]; · iexact HB
    isplitl [HO]; · iexact HO
    iexact Hm
  rw [Nat.zero_add]
  iintro ⟨HB, HO⟩
  iapply Hk
  isplitl [HB HP HG]
  · isplitl [HB]; · iexact HB
    isplitl [HP]; · iexact HP
    iexact HG
  iexact HO

theorem waitB0 {α : Type} {Q : α → sProp 𝕄} {k : PUnit → Prog (TpuEff nD τ sig (Elt F) Λ₀ (thr d L).2) α} (n : ℕ)
    {src : Memref sig .scVector .hbm S8192 .f32} {h1 h2} {O : CellTallies nD τ sig (HIx 1)} {W : Waits sig (HIx 1)} :
    iprop(Transfers.MayWaits (thr d L) (default : HIx 1) O ∗ busy0 (F := F) d L q P G n chunkN ∗ owes (thr d L) O W)
      ⊢ iprop((iprop(idle0 d L q P G (chunk P (cl n)) (chunk G (cl n)) ∗ owes (thr d L) O (insert (SemLoc.dma cc0_scratch5.sem, (default : HIx 1)) W))
              -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch5.sem src g0 h1 h2) k) Q) := by
  unfold busy0 idle0 rest0
  iintro ⟨Hmw, ⟨HB, HP, HG⟩, HO⟩ Hk
  ihave Hm := (Transfers.MayWaits.elim (SemLoc.dma cc0_scratch5.sem)) $$ Hmw
  iapply (Transfers.wp_waitBatchLastO (countersEmb (U := UU)) 𝒱₀ (thr d L) none (default : HIx 1) (N := chunkN) credit_g0 chunkN_pos (D := dlv0 d L q P G n) (u := chunkN) (by omega)) $$ [HB HO Hm]
  · isplitl [HB]; · iexact HB
    isplitl [HO]; · iexact HO
    iexact Hm
  rw [show (bigSep Finset.univ (dlv0 (F := F) d L q P G n) : sProp 𝕄) = iprop(dlv0 d L q P G n 0 ∗ dlv0 d L q P G n 1) from bigSep_fin_two _]
  unfold dlv0
  iintro ⟨⟨⟨Hp, Hps⟩, Hg, Hgs⟩, Hsem, HO⟩
  iapply Hk
  isplitr [HO]
  · isplitl [Hp]; · iexact Hp
    isplitl [Hg]; · iexact Hg
    isplitl [HP Hps]
    · iapply (pointsTo_split_subset (Finset.subset_univ (srcP ![cl n] (cl_inb n)).view.set)).2
      isplitl [Hps]; · iexact Hps
      iexact HP
    isplitl [HG Hgs]
    · iapply (pointsTo_split_subset (Finset.subset_univ (srcG ![cl n] (cl_inb n)).view.set)).2
      isplitl [Hgs]; · iexact Hgs
      iexact HG
    iexact Hsem
  iexact HO

/-! ### Slot 1 -/

/-- What slot 1's two copies deliver: the chunk in the slot's buffer, and the part of the array it was read from. -/
def dlv1 (n : ℕ) : Fin 2 → sProp 𝕄
  | 0 => iprop((p1.view.loc (thr d L) ↦{fullShare} chunk P (cl n)) ∗ ((srcP ![cl n] (cl_inb n)).view.loc (thr d L) ↦[(srcP ![cl n] (cl_inb n)).view.set]{q} P))
  | 1 => iprop((g1.view.loc (thr d L) ↦{fullShare} chunk G (cl n)) ∗ ((srcG ![cl n] (cl_inb n)).view.loc (thr d L) ↦[(srcG ![cl n] (cl_inb n)).view.set]{q} G))

instance dlv1_storable (n : ℕ) (t : Fin 2) : Storable (upEmb : UEmb _ 𝕄) (dlv1 (F := F) d L q P G n t) := by
  unfold dlv1; fin_cases t <;> infer_instance

/-- What slot 1 keeps at rest beside its buffers: both arrays readable, the counter at zero. -/
def rest1 : sProp 𝕄 :=
  iprop((pV.view.loc (thr d L) ↦{q} P) ∗ (gV.view.loc (thr d L) ↦{q} G) ∗ semVal (thr d L, SemLoc.dma cc0_scratch6.sem) 0)

/-- Slot 1 at rest: both arrays readable, both buffers and the counter in hand. -/
def idle1 (fp fg : S8192.Idx → F .f32) : sProp 𝕄 :=
  iprop((p1.view.loc (thr d L) ↦{fullShare} fp) ∗ (g1.view.loc (thr d L) ↦{fullShare} fg) ∗ rest1 d L q P G)

/-- Slot 1 with `y_pred`'s copy of the chunk at `n` issued. -/
def mid1 (n : ℕ) (fg : S8192.Idx → F .f32) : sProp 𝕄 :=
  iprop((g1.view.loc (thr d L) ↦{fullShare} fg)
    ∗ Transfers.Batch (countersEmb (U := UU)) (thr d L) (SemLoc.dma cc0_scratch6.sem) (default : HIx 1) chunkN (dlv1 d L q P G n) 1 0
    ∗ (pV.view.loc (thr d L) ↦[Finset.univ \ (srcP ![cl n] (cl_inb n)).view.set]{q} P) ∗ (gV.view.loc (thr d L) ↦{q} G))

/-- Slot 1 with both copies of the chunk at `n` issued, and `u` units of their credit consumed. -/
def busy1 (n u : ℕ) : sProp 𝕄 :=
  iprop(Transfers.Batch (countersEmb (U := UU)) (thr d L) (SemLoc.dma cc0_scratch6.sem) (default : HIx 1) chunkN (dlv1 d L q P G n) 2 u
    ∗ (pV.view.loc (thr d L) ↦[Finset.univ \ (srcP ![cl n] (cl_inb n)).view.set]{q} P)
    ∗ (gV.view.loc (thr d L) ↦[Finset.univ \ (srcG ![cl n] (cl_inb n)).view.set]{q} G))

theorem issueP1 {α : Type} {Q : α → sProp 𝕄} {k : PUnit → Prog (TpuEff nD τ sig (Elt F) Λ₀ (thr d L).2) α} (n : ℕ) (fp fg : S8192.Idx → F .f32)
    (off : Fin 1 → ℕ) (h : ∀ a, off a + S8192.size a ≤ S8388608.size a) (ho : off = ![cl n]) {h1 h2 h3} :
    idle1 (F := F) d L q P G fp fg
      ⊢ iprop((mid1 d L q P G n fg -∗ wp frame (wpE (defs₀ (F := F)) 𝒱₀ (thr d L) none) Set.univ (k ⟨⟩) Q)
          -∗ wp frame (wpE (defs₀ (F := F)) 𝒱₀ (thr d L) none) Set.univ
              (.op (.enqueueDma (srcP off h) (.here p1) (.dma cc0_scratch6.sem) h1 h2 h3) k) Q) := by
  subst ho
  unfold idle1 mid1 rest1
  iintro ⟨Hp, Hg, HP, HG, Hsem⟩ Hk
  imod (Transfers.batch_alloc' (Lvl := ℕ) (countersEmb (U := UU)) (thr d L) (default : HIx 1) chunkN (dlv1 d L q P G n) (sm := .dma cc0_scratch6.sem) (E := Set.univ)) $$ Hsem with HB
  ihave HP' := (pointsTo_split_subset (Finset.subset_univ (srcP ![cl n] (cl_inb n)).view.set)).1 $$ HP
  icases HP' with ⟨Hs, Hrest⟩
  iapply (Transfers.wp_dmaBatch (countersEmb (U := UU)) 𝒱₀ (thr d L) none (src := srcP ![cl n] h) (via := .same) (dst := p1) (q := q) (fs := P) (fd := fp)
    (Sd := Finset.univ) (D := dlv1 d L q P G n) (j := 0) (u := 0) (default : HIx 1) chunkN rfl (Finset.subset_univ _) (by norm_num) (by norm_num)
    (Entails.of_eq (by rw [show (ReadAs.same (Val := Elt F) (s := S8192) (e := .f32)).apply ((srcP ![cl n] h).view.read (Elt F) P) = chunk P (cl n) from read_srcP P n]; rw [show p1.view.write (Elt F) fp (chunk P (cl n)) Finset.univ = chunk P (cl n) from View.write_whole_univ ..]; rfl))) $$ [Hs Hp HB]
  · isplitl [Hs]; · iexact Hs
    isplitl [Hp]; · iexact Hp
    iexact HB
  iintro HB
  iapply Hk
  isplitl [Hg]; · iexact Hg
  isplitl [HB]; · iexact HB
  isplitl [Hrest]; · iexact Hrest
  iexact HG

theorem issueG1 {α : Type} {Q : α → sProp 𝕄} {k : PUnit → Prog (TpuEff nD τ sig (Elt F) Λ₀ (thr d L).2) α} (n : ℕ) (fg : S8192.Idx → F .f32)
    (off : Fin 1 → ℕ) (h : ∀ a, off a + S8192.size a ≤ S8388608.size a) (ho : off = ![cl n]) {h1 h2 h3} :
    mid1 (F := F) d L q P G n fg
      ⊢ iprop((busy1 d L q P G n 0 -∗ wp frame (wpE (defs₀ (F := F)) 𝒱₀ (thr d L) none) Set.univ (k ⟨⟩) Q)
          -∗ wp frame (wpE (defs₀ (F := F)) 𝒱₀ (thr d L) none) Set.univ
              (.op (.enqueueDma (srcG off h) (.here g1) (.dma cc0_scratch6.sem) h1 h2 h3) k) Q) := by
  subst ho
  unfold mid1 busy1
  iintro ⟨Hg, HB, HP, HG⟩ Hk
  ihave HG' := (pointsTo_split_subset (Finset.subset_univ (srcG ![cl n] (cl_inb n)).view.set)).1 $$ HG
  icases HG' with ⟨Hs, Hrest⟩
  iapply (Transfers.wp_dmaBatch (countersEmb (U := UU)) 𝒱₀ (thr d L) none (src := srcG ![cl n] h) (via := .same) (dst := g1) (q := q) (fs := G) (fd := fg)
    (Sd := Finset.univ) (D := dlv1 d L q P G n) (j := 1) (u := 0) (default : HIx 1) chunkN rfl (Finset.subset_univ _) (by norm_num) (Nat.zero_le _)
    (Entails.of_eq (by rw [show (ReadAs.same (Val := Elt F) (s := S8192) (e := .f32)).apply ((srcG ![cl n] h).view.read (Elt F) G) = chunk G (cl n) from read_srcG G n]; rw [show g1.view.write (Elt F) fg (chunk G (cl n)) Finset.univ = chunk G (cl n) from View.write_whole_univ ..]; rfl))) $$ [Hs Hg HB]
  · isplitl [Hs]; · iexact Hs
    isplitl [Hg]; · iexact Hg
    iexact HB
  iintro HB
  iapply Hk
  isplitl [HB]; · iexact HB
  isplitl [HP]; · iexact HP
  iexact Hrest

theorem waitA1 {α : Type} {Q : α → sProp 𝕄} {k : PUnit → Prog (TpuEff nD τ sig (Elt F) Λ₀ (thr d L).2) α} (n : ℕ)
    {src : Memref sig .scVector .hbm S8192 .f32} {h1 h2} {O : CellTallies nD τ sig (HIx 1)} {W : Waits sig (HIx 1)} :
    iprop(Transfers.MayWaits (thr d L) (default : HIx 1) O ∗ busy1 (F := F) d L q P G n 0 ∗ owes (thr d L) O W)
      ⊢ iprop((iprop(busy1 d L q P G n chunkN ∗ owes (thr d L) O (insert (SemLoc.dma cc0_scratch6.sem, (default : HIx 1)) W))
              -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch6.sem src p1 h1 h2) k) Q) := by
  unfold busy1
  iintro ⟨Hmw, ⟨HB, HP, HG⟩, HO⟩ Hk
  ihave Hm := (Transfers.MayWaits.elim (SemLoc.dma cc0_scratch6.sem)) $$ Hmw
  iapply (Transfers.wp_waitBatchO (countersEmb (U := UU)) 𝒱₀ (thr d L) none (default : HIx 1) (N := chunkN) credit_p1 (D := dlv1 d L q P G n) (u := 0) (by have := chunkN_pos; omega)) $$ [HB HO Hm]
  · isplitl [HB]; · iexact HB
    isplitl [HO]; · iexact HO
    iexact Hm
  rw [Nat.zero_add]
  iintro ⟨HB, HO⟩
  iapply Hk
  isplitl [HB HP HG]
  · isplitl [HB]; · iexact HB
    isplitl [HP]; · iexact HP
    iexact HG
  iexact HO

theorem waitB1 {α : Type} {Q : α → sProp 𝕄} {k : PUnit → Prog (TpuEff nD τ sig (Elt F) Λ₀ (thr d L).2) α} (n : ℕ)
    {src : Memref sig .scVector .hbm S8192 .f32} {h1 h2} {O : CellTallies nD τ sig (HIx 1)} {W : Waits sig (HIx 1)} :
    iprop(Transfers.MayWaits (thr d L) (default : HIx 1) O ∗ busy1 (F := F) d L q P G n chunkN ∗ owes (thr d L) O W)
      ⊢ iprop((iprop(idle1 d L q P G (chunk P (cl n)) (chunk G (cl n)) ∗ owes (thr d L) O (insert (SemLoc.dma cc0_scratch6.sem, (default : HIx 1)) W))
              -∗ wp frame (wpE (defs₀ (F := F)) 𝒱₀ (thr d L) none) Set.univ (k ⟨⟩) Q)
          -∗ wp frame (wpE (defs₀ (F := F)) 𝒱₀ (thr d L) none) Set.univ
              (.op (.waitDma2 cc0_scratch6.sem src g1 h1 h2) k) Q) := by
  unfold busy1 idle1 rest1
  iintro ⟨Hmw, ⟨HB, HP, HG⟩, HO⟩ Hk
  ihave Hm := (Transfers.MayWaits.elim (SemLoc.dma cc0_scratch6.sem)) $$ Hmw
  iapply (Transfers.wp_waitBatchLastO (countersEmb (U := UU)) 𝒱₀ (thr d L) none (default : HIx 1) (N := chunkN) credit_g1 chunkN_pos (D := dlv1 d L q P G n) (u := chunkN) (by omega)) $$ [HB HO Hm]
  · isplitl [HB]; · iexact HB
    isplitl [HO]; · iexact HO
    iexact Hm
  rw [show (bigSep Finset.univ (dlv1 (F := F) d L q P G n) : sProp 𝕄) = iprop(dlv1 d L q P G n 0 ∗ dlv1 d L q P G n 1) from bigSep_fin_two _]
  unfold dlv1
  iintro ⟨⟨⟨Hp, Hps⟩, Hg, Hgs⟩, Hsem, HO⟩
  iapply Hk
  isplitr [HO]
  · isplitl [Hp]; · iexact Hp
    isplitl [Hg]; · iexact Hg
    isplitl [HP Hps]
    · iapply (pointsTo_split_subset (Finset.subset_univ (srcP ![cl n] (cl_inb n)).view.set)).2
      isplitl [Hps]; · iexact Hps
      iexact HP
    isplitl [HG Hgs]
    · iapply (pointsTo_split_subset (Finset.subset_univ (srcG ![cl n] (cl_inb n)).view.set)).2
      isplitl [Hgs]; · iexact Hgs
      iexact HG
    iexact Hsem
  iexact HO

end Slot

end Cert.Proof.KI
-- ==== Proof.KIBody.lean ====
module

public import proofs.«01_k».proof.Proof.KISlot

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a tile's registers hold -/

/-- The registers after `n` trips of a chunk's loop. -/
def iterAcc (p g : S8192.Idx → F .f32) : ℕ → Acc F → Acc F
  | 0, a => a
  | n + 1, a => stepAcc p g n (iterAcc p g n a)

/-- The registers before anything is summed. -/
def zeroAcc : Acc F :=
  (k0_pay131, k0_pay131, k0_pay131, k0_pay131, k0_pay131, k0_pay131, k0_pay131, k0_pay131, k0_pay131, k0_pay131, k0_pay131, k0_pay131, k0_pay131, k0_pay131, k0_pay131, k0_pay131)

/-- The registers after the first `c` chunks from entry `b` on. -/
def tileAcc (P G : S8388608.Idx → F .f32) (b : ℕ) : ℕ → Acc F
  | 0 => zeroAcc
  | c + 1 => iterAcc (chunk P (cl (b + 8192 * c))) (chunk G (cl (b + 8192 * c))) 64 (tileAcc P G b c)

/-! ## The offsets of a tile's chunks -/

/-- The tile's number. -/
def wid (L : grid0.Coords) : ℕ := 2 * (L 1).val + (L 0).val

/-- The first entry of the tile's part of the arrays. -/
def base (L : grid0.Coords) : ℕ := 65536 * wid L

theorem wid_lt (L : grid0.Coords) : wid L < 32 := by
  have h0 : (L 0).val < 2 := (L 0).isLt
  have h1 : (L 1).val < 16 := (L 1).isLt
  unfold wid; omega

theorem off1_eq (L : grid0.Coords) : k0_off1 L = ![cl (base L + 8192 * 0)] := by
  have h := wid_lt L
  have h0 : (L 0).val < 2 := (L 0).isLt
  have h1 : (L 1).val < 16 := (L 1).isLt
  rw [cl_of_le (by unfold base; omega)]
  funext a; fin_cases a
  simp only [k0_off1, Scalar.muli, Scalar.addi, IntOp.muli, IntOp.addi, base, wid]
  simp [BitVec.toNat_add, BitVec.toNat_mul]
  omega

theorem off2_eq (L : grid0.Coords) : k0_off2 L = ![cl (base L + 8192 * 1)] := by
  have h := wid_lt L
  have h0 : (L 0).val < 2 := (L 0).isLt
  have h1 : (L 1).val < 16 := (L 1).isLt
  rw [cl_of_le (by unfold base; omega)]
  funext a; fin_cases a
  simp only [k0_off2, Scalar.muli, Scalar.addi, IntOp.muli, IntOp.addi, base, wid]
  simp [BitVec.toNat_add, BitVec.toNat_mul]
  omega

theorem off5_eq (L : grid0.Coords) (k : Fin k0_t1_loop.trips) (r : ℕ) (hr : r < 2) :
    k0_off5 L k (BitVec.ofNat 32 r) = ![cl (base L + 8192 * (2 * (k.val + 1) + r))] := by
  have h := wid_lt L
  have h0 : (L 0).val < 2 := (L 0).isLt
  have h1 : (L 1).val < 16 := (L 1).isLt
  have hk : k.val < 3 := k.isLt
  rw [cl_of_le (by unfold base; omega)]
  funext a; fin_cases a
  simp only [k0_off5, Scf.iv, Scalar.muli, Scalar.addi, IntOp.muli, IntOp.addi, base, wid]
  simp [BitVec.toNat_add, BitVec.toNat_mul]
  omega

end Cert.Proof.KI
-- ==== Proof.KIPair.lean ====
module

public import proofs.«01_k».proof.Proof.KIBody

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Pair

variable (d : Dev nD) (L : grid0.Coords) (q : PosShare TreeShare) (P G : S8388608.Idx → F .f32)

/-- The tile's obligation to pay `O`, every wait it has made recorded in `W` or at the kernel's own index. -/
def owing (O : CellTallies nD τ sig (HIx 1)) (W : Waits sig (HIx 1)) : sProp 𝕄 :=
  iprop(∃ W', ⌜∀ p ∈ W', p ∈ W ∨ p.2 = none⌝ ∗ owes (thr d L) O W')

theorem owing_insert {W W' : Waits sig (HIx 1)} {s : SemLoc sig} (hW : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact hW p hp

/-- Before pair `k` of chunks: the registers hold the sums of the first `2·k` chunks, chunk `2·k` is on its way into slot 0
    and chunk `2·k + 1` into slot 1. -/
def inv1 (O : CellTallies nD τ sig (HIx 1)) (W : Waits sig (HIx 1)) (k : ℕ) (acc : Acc F) : sProp 𝕄 :=
  iprop(Transfers.MayWaits (thr d L) (default : HIx 1) O ∗ ⌜acc = tileAcc P G (base L) (2 * k)⌝
    ∗ busy0 d L q.left P G (base L + 8192 * (2 * k + 0)) 0 ∗ busy1 d L q.right P G (base L + 8192 * (2 * k + 1)) 0 ∗ owing d L O W)

/-- One pair of chunks. -/
theorem pair (O : CellTallies nD τ sig (HIx 1)) (W : Waits sig (HIx 1)) (k : Fin k0_t1_loop.trips) (acc : Acc F) :
    inv1 d L q P G O W k.val acc
      ⊢ wp frame (wpE (defs₀ (F := F)) 𝒱₀ (thr d L) none) Set.univ
          (k0_t1_body L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0 k acc)
          fun acc' => inv1 d L q P G O W (k.val + 1) acc' := by
  obtain ⟨a0, a1, a2, a3, a4, a5, a6, a7, b0, b1, b2, b3, b4, b5, b6, b7⟩ := acc
  unfold inv1 owing
  iintro ⟨#Hmw, %hacc, H0, H1, %W', %hW, HO⟩
  unfold k0_t1_body
  sl_exec
  iapply (waitA0 d L q.left P G) $$ [H0 HO]
  · isplitr; · iexact Hmw
    isplitl [H0] <;> iassumption
  iintro ⟨H0, HO⟩
  sl_exec
  iapply (waitB0 d L q.left P G) $$ [H0 HO]
  · isplitr; · iexact Hmw
    isplitl [H0] <;> iassumption
  unfold idle0
  iintro ⟨⟨Hp, Hg, H0⟩, HO⟩
  sl_exec
  sl_for (fun j a => iprop(⌜a = iterAcc (chunk P (cl (base L + 8192 * (2 * k.val + 0)))) (chunk G (cl (base L + 8192 * (2 * k.val + 0)))) j (a0, a1, a2, a3, a4, a5, a6, a7, b0, b1, b2, b3, b4, b5, b6, b7)⌝
    ∗ (p0.view.loc (thr d L) ↦{fullShare} chunk P (cl (base L + 8192 * (2 * k.val + 0)))) ∗ (g0.view.loc (thr d L) ↦{fullShare} chunk G (cl (base L + 8192 * (2 * k.val + 0)))))) $$ [Hp Hg]
  case region =>
    intro j a
    iintro ⟨%hj, H⟩
    subst hj
    iapply (trip2 d L j _ _ _) $$ H
  · isplitr; · ipureintro; rfl
    isplitl [Hp] <;> iassumption
  iintro %acc H
  obtain ⟨c0, c1, c2, c3, c4, c5, c6, c7, e0, e1, e2, e3, e4, e5, e6, e7⟩ := acc
  icases H with ⟨%ha, Hp, Hg⟩
  sl_exec
  iapply (issueP0 d L q.left P G (base L + 8192 * (2 * (k.val + 1) + 0)) _ _ (k0_off5 L k 0#32) _ (off5_eq L k 0 (by norm_num))) $$ [Hp Hg H0]
  · unfold idle0
    isplitl [Hp]; · iexact Hp
    isplitl [Hg]; · iexact Hg
    iexact H0
  iintro H0
  sl_exec
  iapply (issueG0 d L q.left P G (base L + 8192 * (2 * (k.val + 1) + 0)) _ (k0_off5 L k 0#32) _ (off5_eq L k 0 (by norm_num))) $$ H0
  iintro H0
  sl_exec
  iapply (waitA1 d L q.right P G) $$ [H1 HO]
  · isplitr; · iexact Hmw
    isplitl [H1] <;> iassumption
  iintro ⟨H1, HO⟩
  sl_exec
  iapply (waitB1 d L q.right P G) $$ [H1 HO]
  · isplitr; · iexact Hmw
    isplitl [H1] <;> iassumption
  unfold idle1
  iintro ⟨⟨Hp, Hg, H1⟩, HO⟩
  sl_exec
  sl_for (fun j a => iprop(⌜a = iterAcc (chunk P (cl (base L + 8192 * (2 * k.val + 1)))) (chunk G (cl (base L + 8192 * (2 * k.val + 1)))) j (c0, c1, c2, c3, c4, c5, c6, c7, e0, e1, e2, e3, e4, e5, e6, e7)⌝
    ∗ (p1.view.loc (thr d L) ↦{fullShare} chunk P (cl (base L + 8192 * (2 * k.val + 1)))) ∗ (g1.view.loc (thr d L) ↦{fullShare} chunk G (cl (base L + 8192 * (2 * k.val + 1)))))) $$ [Hp Hg]
  case region =>
    intro j a
    iintro ⟨%hj, H⟩
    subst hj
    iapply (trip3 d L j _ _ _) $$ H
  · isplitr; · ipureintro; rfl
    isplitl [Hp] <;> iassumption
  iintro %acc H
  obtain ⟨s0, s1, s2, s3, s4, s5, s6, s7, t0, t1, t2, t3, t4, t5, t6, t7⟩ := acc
  icases H with ⟨%ha', Hp, Hg⟩
  sl_exec
  iapply (issueP1 d L q.right P G (base L + 8192 * (2 * (k.val + 1) + 1)) _ _ (k0_off5 L k 1#32) _ (off5_eq L k 1 (by norm_num))) $$ [Hp Hg H1]
  · unfold idle1
    isplitl [Hp]; · iexact Hp
    isplitl [Hg]; · iexact Hg
    iexact H1
  iintro H1
  sl_exec
  iapply (issueG1 d L q.right P G (base L + 8192 * (2 * (k.val + 1) + 1)) _ (k0_off5 L k 1#32) _ (off5_eq L k 1 (by norm_num))) $$ H1
  iintro H1
  sl_exec
  sl_step
  isplitr; · iexact Hmw
  isplitr; · ipureintro; rw [ha', ha, hacc]; rfl
  isplitl [H0]; · iexact H0
  isplitl [H1]; · iexact H1
  iexists _
  isplitr
  rotate_left; · iexact HO
  ipureintro
  exact owing_insert (owing_insert (owing_insert (owing_insert hW)))

end Pair

end Cert.Proof.KI
-- ==== Proof.KITile.lean ====
module

public import proofs.«01_k».proof.Proof.KIPair

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a tile writes out -/

/-- The row of summed weights. -/
def rowW : Acc F → FVec F S1x16 .f32 := fun (a0, a1, a2, a3, a4, a5, a6, a7, b0, b1, b2, b3, b4, b5, b6, b7) => k0_pay1 (k0_pay144 a0 a1 a2 a3 a4 a5 a6 a7)
/-- The row of summed weighted squares. -/
def rowE : Acc F → FVec F S1x16 .f32 := fun (a0, a1, a2, a3, a4, a5, a6, a7, b0, b1, b2, b3, b4, b5, b6, b7) => k0_pay2 b0 b1 b2 b3 b4 b5 b6 b7

/-- The place of lane `x` in a row. -/
def lane (x : Fin 16) : S1x16.Idx := fun | 0 => ⟨0, by decide⟩ | 1 => x

/-- The two rows together. -/
def rowsOf (acc : Acc F) : S2x16.Idx → F .f32 := fun x => if (x 0).val = 0 then rowW acc (lane (x 1)) else rowE acc (lane (x 1))

/-- Row `r`, lane `x`. -/
def rowLane (r : Fin 2) (x : Fin 16) : S2x16.Idx := fun | 0 => r | 1 => x

/-- What the thirty-two tiles leave in the array of partial sums. -/
def partials (P G : S8388608.Idx → F .f32) : S32x2x16.Idx → F .f32 := fun i => rowsOf (tileAcc P G (65536 * (i 0).val) 8) (rowLane (i 1) (i 2))

section Tile

variable (d : Dev nD) (L : grid0.Coords) (q : PosShare TreeShare) (P G : S8388608.Idx → F .f32)

theorem odiv : 32 ∣ S32x2x16.size 0 := ⟨1, rfl⟩
abbrev orow (i : Fin 32) : Rect S32x2x16 := Rect.part (s := S32x2x16) (a₀ := 0) odiv i
abbrev oRowSet (i : Fin 32) : Finset S32x2x16.Idx := (oV.view.slice (orow i)).set
/-- The tile's row. -/
abbrev wL (L : grid0.Coords) : Fin 32 := ⟨wid L, wid_lt L⟩

abbrev orowK (L : grid0.Coords) : Rect S32x2x16 := Rect.unit (s := S32x2x16) (k0_off9 L) S1x2x16.size (k0_off9_inb L)
/-- The tile's row of the partial sums, as the kernel addresses it. -/
abbrev oRowK (L : grid0.Coords) : Memref sig .scVector .hbm S2x16 .f32 := (oV.slice (orowK L) (fun _ => rfl)).squeeze S2x16 squeezes_S1x2x16_S2x16

theorem off9_eq : k0_off9 L = ![wid L, 0, 0] := by
  have h0 : (L 0).val < 2 := (L 0).isLt
  have h1 : (L 1).val < 16 := (L 1).isLt
  simp only [k0_off9, Scalar.muli, Scalar.addi, IntOp.muli, IntOp.addi, wid]
  congr 1
  simp [BitVec.toNat_add, BitVec.toNat_mul]
  omega

theorem orowK_eq : orowK L = orow (wL L) := by
  unfold orowK orow Rect.part Rect.block
  congr 1 <;> funext a
  · rw [off9_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem emb_oRowK (x : S2x16.Idx) : ((oRowK L).view.emb x 0).val = wid L ∧ rowLane ((oRowK L).view.emb x 1) ((oRowK L).view.emb x 2) = x := by
  have e : Shape.reshapeEquiv (s := S1x2x16) (s' := S2x16) squeezes_S1x2x16_S2x16.numel_eq x = fun | 0 => ⟨0, by decide⟩ | 1 => x 0 | 2 => x 1 := by
    apply Shape.reshapeEquiv_eq_of_rowMajor
    revert x; decide
  have h : ∀ a, ((oRowK L).view.emb x a).val = k0_off9 L a + 1 * (Shape.reshapeEquiv (s := S1x2x16) (s' := S2x16) squeezes_S1x2x16_S2x16.numel_eq x a).val := fun _ => rfl
  refine ⟨?_, ?_⟩
  · rw [h, e, off9_eq]; rfl
  · funext a
    match a with
    | 0 => apply Fin.ext; show ((oRowK L).view.emb x 1).val = _; rw [h, e, off9_eq]; show 0 + 1 * (x 0).val = (x 0).val; omega
    | 1 => apply Fin.ext; show ((oRowK L).view.emb x 2).val = _; rw [h, e, off9_eq]; show 0 + 1 * (x 1).val = (x 1).val; omega

/-- The two stores of the tile leave the two rows. -/
theorem stage_rows (f : S2x16.Idx → F .f32) (acc : Acc F) :
    stg.view.read (Elt F) (stg.view.writes (Elt F) f [⟨Rect.unit ![1, 0] S1x16.size inb_S2x16_S1x16_1_0, rowE acc⟩,
      ⟨Rect.unit ![0, 0] S1x16.size inb_S2x16_S1x16_0_0, rowW acc⟩]) = rowsOf acc := by
  funext y
  have hl : ∀ x : S1x16.Idx, lane (x 1) = x := fun x => by
    funext a
    match a with
    | 0 => apply Fin.ext; have h : (x 0).val < 1 := (x 0).isLt; show 0 = (x 0).val; omega
    | 1 => rfl
  refine View.read_writes_apply_of_pieces (Val := Elt F) stg.view f (rowsOf acc) _ ?_ y ?_
  · intro p hp x
    simp only [List.mem_cons, List.not_mem_nil, or_false] at hp
    rcases hp with rfl | rfl
    · show rowE acc x = rowsOf acc _
      unfold rowsOf
      rw [if_neg (by show ¬ (1 + 1 * (x 0).val = 0); omega)]
      exact congrArg (rowE acc) ((hl x).symm.trans (congrArg lane (Fin.ext (by show (x 1).val = 0 + 1 * (x 1).val; omega))))
    · show rowW acc x = rowsOf acc _
      unfold rowsOf
      rw [if_pos (by have h : (x 0).val < 1 := (x 0).isLt; show 0 + 1 * (x 0).val = 0; omega)]
      exact congrArg (rowW acc) ((hl x).symm.trans (congrArg lane (Fin.ext (by show (x 1).val = 0 + 1 * (x 1).val; omega))))
  · by_cases h0 : (y 0).val = 0
    · refine ⟨_, List.mem_cons_of_mem _ (List.mem_singleton_self _), (Rect.mem_set_unit (s := S2x16) (off := ![0, 0]) (size := S1x16.size) (inb := inb_S2x16_S1x16_0_0)).mpr fun a => ?_⟩
      match a with
      | 0 => exact ⟨Nat.zero_le _, by show (y 0).val < 0 + 1; omega⟩
      | 1 => exact ⟨Nat.zero_le _, by have h : (y 1).val < 16 := (y 1).isLt; show (y 1).val < 0 + 16; omega⟩
    · refine ⟨_, List.mem_cons_self, (Rect.mem_set_unit (s := S2x16) (off := ![1, 0]) (size := S1x16.size) (inb := inb_S2x16_S1x16_1_0)).mpr fun a => ?_⟩
      have h2 : (y 0).val < 2 := (y 0).isLt
      match a with
      | 0 => exact ⟨by show 1 ≤ (y 0).val; omega, by show (y 0).val < 1 + 1; omega⟩
      | 1 => exact ⟨Nat.zero_le _, by have h : (y 1).val < 16 := (y 1).isLt; show (y 1).val < 0 + 16; omega⟩

/-- The copy out of the tile leaves its row of the partial sums. -/
theorem out_row (fo : S32x2x16.Idx → F .f32) :
    ∀ i ∈ (oRowK L).view.set, (oRowK L).view.writes (Elt F) fo [⟨Rect.whole S2x16, rowsOf (tileAcc P G (base L) 8)⟩] i = partials P G i := by
  intro i hi
  obtain ⟨x, -, rfl⟩ := Finset.mem_map.mp hi
  refine (View.read_writes_cons_hit_of_coords (Val := Elt F) (oRowK L).view fo (Rect.whole S2x16) (rowsOf (tileAcc P G (base L) 8)) [] x x
    (fun a => by show (x a).val = 0 + 1 * (x a).val; omega)).trans ?_
  unfold partials
  have h := emb_oRowK L x
  rw [h.1, h.2]
  rfl

theorem set_oRowK : (oRowK L).view.set = oRowSet (wL L) := by
  show ((oV.view.slice (orowK L)).reshape S2x16 squeezes_S1x2x16_S2x16.numel_eq).set = (oV.view.slice (orow (wL L))).set
  rw [View.set_reshape]
  exact orowK_eq L ▸ rfl

abbrev cAcell (d : Dev nD) (c : Fin τ.nSC) (i : Fin τ.nSub) : GSem nD τ sig := (V d c i, .dma cc0_scratch5.sem)
abbrev cBcell (d : Dev nD) (c : Fin τ.nSC) (i : Fin τ.nSub) : GSem nD τ sig := (V d c i, .dma cc0_scratch6.sem)
abbrev cCcell (d : Dev nD) (c : Fin τ.nSC) (i : Fin τ.nSub) : GSem nD τ sig := (V d c i, .dma cc0_scoped0.sem)

/-- The three semaphores the kernel uses are among the tile's own. -/
theorem ownSems0_V :
    (ownSems0 (thr d L) : sProp 𝕄)
      = iprop(semVal (cAcell d (cV L) (jV L)) 0 ∗ semVal (cBcell d (cV L) (jV L)) 0 ∗ semVal (cCcell d (cV L) (jV L)) 0
          ∗ bigSep ((((ownCells (thr d L)).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch5.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch6.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

/-- The five scratch buffers are among the tile's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-- What the kernel keeps of its registers. -/
def kept : Acc F → (Σ' (_ : FVec F S16 .f32) (_ : FVec F S16 .f32) (_ : FVec F S16 .f32) (_ : FVec F S16 .f32) (_ : FVec F S16 .f32) (_ : FVec F S16 .f32) (_ : FVec F S16 .f32) (_ : FVec F S16 .f32), FVec F S16 .f32) := fun (a0, a1, a2, a3, a4, a5, a6, a7, b0, b1, b2, b3, b4, b5, b6, b7) => ⟨b0, b1, b2, b3, b4, b5, b6, b7, k0_pay144 a0 a1 a2 a3 a4 a5 a6 a7⟩

/-- The eight chunks: the sums of the tile's part of the two arrays, and both slots back with their semaphores at zero. -/
theorem chunks (O : CellTallies nD τ sig (HIx 1)) (W : Waits sig (HIx 1)) (f0 f1 f2 f3 : S8192.Idx → F .f32) :
    iprop(Transfers.MayWaits (thr d L) (default : HIx 1) O ∗ idle0 d L q.left P G f0 f2 ∗ idle1 d L q.right P G f1 f3 ∗ owing d L O W)
      ⊢@{sProp 𝕄} wp frame (wpE (defs₀ (F := F)) 𝒱₀ (thr d L) none) Set.univ
          (k0_part13 L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0)
          fun r => iprop(⌜r = kept (tileAcc P G (base L) 8)⌝ ∗ (∃ f0 f2, idle0 d L q.left P G f0 f2) ∗ (∃ f1 f3, idle1 d L q.right P G f1 f3) ∗ owing d L O W) := by
  rw [k0_part13_eq_skeleton]; unfold k0_part13_skel owing
  iintro ⟨#Hmw, H0, H1, %W', %hW, HO⟩
  sl_exec
  iapply (issueP0 d L q.left P G (base L + 8192 * 0) _ _ (k0_off1 L) _ (off1_eq L)) $$ H0
  iintro H0
  sl_exec
  iapply (issueG0 d L q.left P G (base L + 8192 * 0) _ (k0_off1 L) _ (off1_eq L)) $$ H0
  iintro H0
  sl_exec
  iapply (issueP1 d L q.right P G (base L + 8192 * 1) _ _ (k0_off2 L) _ (off2_eq L)) $$ H1
  iintro H1
  sl_exec
  iapply (issueG1 d L q.right P G (base L + 8192 * 1) _ (k0_off2 L) _ (off2_eq L)) $$ H1
  iintro H1
  sl_for (inv1 d L q P G O W) $$ [H0 H1 HO]
  case region =>
    intro k a
    exact pair d L q P G O W k a
  · unfold inv1 owing
    isplitr; · iexact Hmw
    isplitr; · ipureintro; rfl
    isplitl [H0]; · iexact H0
    isplitl [H1]; · iexact H1
    iexists W'
    isplitr; · ipureintro; exact hW
    iexact HO
  iintro %acc H
  obtain ⟨a0, a1, a2, a3, a4, a5, a6, a7, b0, b1, b2, b3, b4, b5, b6, b7⟩ := acc
  unfold inv1 owing
  icases H with ⟨-, %hacc, H0, H1, %W₁, %hW₁, HO⟩
  sl_exec
  iapply (waitA0 d L q.left P G) $$ [H0 HO]
  · isplitr; · iexact Hmw
    isplitl [H0] <;> iassumption
  iintro ⟨H0, HO⟩
  sl_exec
  iapply (waitB0 d L q.left P G) $$ [H0 HO]
  · isplitr; · iexact Hmw
    isplitl [H0] <;> iassumption
  unfold idle0
  iintro ⟨⟨Hp0, Hg0, HR0⟩, HO⟩
  sl_for (fun j a => iprop(⌜a = iterAcc (chunk P (cl (base L + 8192 * (2 * k0_t1_loop.trips + 0)))) (chunk G (cl (base L + 8192 * (2 * k0_t1_loop.trips + 0)))) j (a0, a1, a2, a3, a4, a5, a6, a7, b0, b1, b2, b3, b4, b5, b6, b7)⌝
    ∗ (p0.view.loc (thr d L) ↦{fullShare} chunk P (cl (base L + 8192 * (2 * k0_t1_loop.trips + 0)))) ∗ (g0.view.loc (thr d L) ↦{fullShare} chunk G (cl (base L + 8192 * (2 * k0_t1_loop.trips + 0)))))) $$ [Hp0 Hg0]
  case region =>
    intro j a
    iintro ⟨%hj, H⟩
    subst hj
    iapply (trip4 d L j _ _ _) $$ H
  · isplitr; · ipureintro; rfl
    isplitl [Hp0] <;> iassumption
  iintro %acc H
  obtain ⟨c0, c1, c2, c3, c4, c5, c6, c7, e0, e1, e2, e3, e4, e5, e6, e7⟩ := acc
  icases H with ⟨%ha, Hp0, Hg0⟩
  sl_exec
  iapply (waitA1 d L q.right P G) $$ [H1 HO]
  · isplitr; · iexact Hmw
    isplitl [H1] <;> iassumption
  iintro ⟨H1, HO⟩
  sl_exec
  iapply (waitB1 d L q.right P G) $$ [H1 HO]
  · isplitr; · iexact Hmw
    isplitl [H1] <;> iassumption
  unfold idle1
  iintro ⟨⟨Hp1, Hg1, HR1⟩, HO⟩
  sl_for (fun j a => iprop(⌜a = iterAcc (chunk P (cl (base L + 8192 * (2 * k0_t1_loop.trips + 1)))) (chunk G (cl (base L + 8192 * (2 * k0_t1_loop.trips + 1)))) j (c0, c1, c2, c3, c4, c5, c6, c7, e0, e1, e2, e3, e4, e5, e6, e7)⌝
    ∗ (p1.view.loc (thr d L) ↦{fullShare} chunk P (cl (base L + 8192 * (2 * k0_t1_loop.trips + 1)))) ∗ (g1.view.loc (thr d L) ↦{fullShare} chunk G (cl (base L + 8192 * (2 * k0_t1_loop.trips + 1)))))) $$ [Hp1 Hg1]
  case region =>
    intro j a
    iintro ⟨%hj, H⟩
    subst hj
    iapply (trip5 d L j _ _ _) $$ H
  · isplitr; · ipureintro; rfl
    isplitl [Hp1] <;> iassumption
  iintro %acc H
  obtain ⟨s0, s1, s2, s3, s4, s5, s6, s7, t0, t1, t2, t3, t4, t5, t6, t7⟩ := acc
  icases H with ⟨%ha', Hp1, Hg1⟩
  sl_exec
  sl_step
  isplitr
  · ipureintro
    rw [show tileAcc P G (base L) 8 = (s0, s1, s2, s3, s4, s5, s6, s7, t0, t1, t2, t3, t4, t5, t6, t7) from (by rw [ha', ha, hacc]; rfl)]
    rfl
  isplitl [Hp0 Hg0 HR0]
  · iexists _; iexists _
    isplitl [Hp0]; · iexact Hp0
    isplitl [Hg0]; · iexact Hg0
    iexact HR0
  isplitl [Hp1 Hg1 HR1]
  · iexists _; iexists _
    isplitl [Hp1]; · iexact Hp1
    isplitl [Hg1]; · iexact Hg1
    iexact HR1
  iexists _
  isplitr
  rotate_left; · iexact HO
  ipureintro
  exact owing_insert (owing_insert (owing_insert (owing_insert hW₁)))

theorem tile_body (hF : (K (F := F)).Facts) (O : CellTallies nD τ sig (HIx 1)) (W : Waits sig (HIx 1)) (hO : ∀ g, O g none = 0) (fo : S32x2x16.Idx → F .f32) :
    iprop(levAts (K (F := F)).L (K (F := F)).lev ∗ emp
        ∗ ((pV.view.loc (thr d L) ↦{q} P) ∗ (gV.view.loc (thr d L) ↦{q} G) ∗ (oV.view.loc (thr d L) ↦[oRowSet (wL L)]{fullShare} fo))
        ∗ scopedBufs (thr d L) ∗ scopedSems0 (thr d L) ∗ owes (thr d L) O W)
      ⊢@{sProp 𝕄} wp frame (wpE (defs₀ (F := F)) 𝒱₀ (thr d L) none) Set.univ
          (cc0__sc_partials L pV (Memref.isWhole_whole _) gV (Memref.isWhole_whole _) oV (Memref.isWhole_whole _) p0 (Memref.isWhole_whole _) p1 (Memref.isWhole_whole _)
            g0 (Memref.isWhole_whole _) g1 (Memref.isWhole_whole _) stg (Memref.isWhole_whole _) cc0_scratch5 cc0_scratch6 cc0_scoped0)
          fun _ => iprop(((pV.view.loc (thr d L) ↦{q} P) ∗ (gV.view.loc (thr d L) ↦{q} G) ∗ (oV.view.loc (thr d L) ↦[oRowSet (wL L)]{fullShare} partials P G))
            ∗ scopedBufs (thr d L) ∗ scopedSems0 (thr d L)
            ∗ ∃ W', ⌜∀ p ∈ W', p ∈ W ∨ p.2 = none⌝ ∗ owes (thr d L) O W') := by
  rw [cc0__sc_partials_eq_skeleton]; unfold cc0__sc_partials_skel
  rw [(K (F := F)).scopedBufs_V hF d (cV L) (jV L), SparseCore.Cfg.scopedSems0_V (Val := Elt F) d (cV L) (jV L), ownSems0_V, ownBufs_V]
  iintro ⟨#Hlv, -, ⟨HP, HG, Ho⟩, ⟨⟨%f0, Hp0⟩, ⟨%f1, Hp1⟩, ⟨%f2, Hg0⟩, ⟨%f3, Hg1⟩, ⟨%f4, Hs⟩, Hbufs⟩, ⟨HsemA, HsemB, HsemC, Hsems⟩, HO⟩
  ihave #Hmw := (show levAts (K (F := F)).L (K (F := F)).lev ⊢ Transfers.MayWaits (thr d L) (default : HIx 1) O from
    (K (F := F)).mayWaits_none (thr := thr d L) hO) $$ Hlv
  ihave HP' := (pointsTo_share (PosShare.mem_left_op_right q)).1 $$ HP
  icases HP' with ⟨HPl, HPr⟩
  ihave HG' := (pointsTo_share (PosShare.mem_left_op_right q)).1 $$ HG
  icases HG' with ⟨HGl, HGr⟩
  ihave Ho' := (Entails.of_eq (show (oV.view.loc (thr d L) ↦[oRowSet (wL L)]{fullShare} fo : sProp 𝕄)
      = (oRowK L).view.loc (thr d L) ↦[(oRowK L).view.set]{fullShare} fo by rw [set_oRowK])) $$ Ho
  ihave Hs' := (Entails.of_eq (show ((thr d L).loc cc0_scratch4 ↦{fullShare} f4 : sProp 𝕄) = stg.view.loc (thr d L) ↦{fullShare} f4 from rfl)) $$ Hs
  rw [wp_bind]
  iapply (wp_wand_r frame _ Set.univ)
  isplitl [HPl HPr HGl HGr Hp0 Hp1 Hg0 Hg1 HsemA HsemB HO]
  · iapply (chunks d L q P G O W f0 f1 f2 f3)
    unfold idle0 idle1 rest0 rest1 owing
    isplitr; · iexact Hmw
    isplitl [HPl HGl Hp0 Hg0 HsemA]
    · isplitl [Hp0]; · iexact Hp0
      isplitl [Hg0]; · iexact Hg0
      isplitl [HPl]; · iexact HPl
      isplitl [HGl] <;> iassumption
    isplitl [HPr HGr Hp1 Hg1 HsemB]
    · isplitl [Hp1]; · iexact Hp1
      isplitl [Hg1]; · iexact Hg1
      isplitl [HPr]; · iexact HPr
      isplitl [HGr] <;> iassumption
    iexists W
    isplitr; · ipureintro; exact fun p hp => .inl hp
    iexact HO
  iintro %r ⟨%hr, ⟨%f0', %f2', H0⟩, ⟨%f1', %f3', H1⟩, HO⟩
  subst hr
  unfold owing
  icases HO with ⟨%W', %hW, HO⟩
  have hrow := out_row L P G fo
  revert hrow
  unfold kept
  generalize tileAcc P G (base L) 8 = acc
  intro hrow
  have hstage := stage_rows f4 acc
  obtain ⟨a0, a1, a2, a3, a4, a5, a6, a7, b0, b1, b2, b3, b4, b5, b6, b7⟩ := acc
  sl_exec
  sl_step
  unfold idle0 idle1 rest0 rest1
  icases H0 with ⟨Hp0, Hg0, HPl, HGl, HsemA⟩
  icases H1 with ⟨Hp1, Hg1, HPr, HGr, HsemB⟩
  ihave HP := (pointsTo_share (PosShare.mem_left_op_right q)).2 $$ [HPl HPr]
  · isplitl [HPl] <;> iassumption
  ihave HG := (pointsTo_share (PosShare.mem_left_op_right q)).2 $$ [HGl HGr]
  · isplitl [HGl] <;> iassumption
  ihave Ho2 := (Entails.of_eq (pointsTo_congr (g := partials P G) (fun i hi => by
    refine Eq.trans (congrArg (fun w => (oRowK L).view.writes (Elt F) fo [⟨Rect.whole S2x16, w⟩] i) ?_) (hrow i hi)
    exact hstage))) $$ Ho'
  isplitl [HP HG Ho2]
  · isplitl [HP]; · iexact HP
    isplitl [HG]; · iexact HG
    rw [← set_oRowK]
    iexact Ho2
  isplitl [Hp0 Hp1 Hg0 Hg1 Hs' Hbufs]
  · isplitl [Hp0]; · iexists _; iexact Hp0
    isplitl [Hp1]; · iexists _; iexact Hp1
    isplitl [Hg0]; · iexists _; iexact Hg0
    isplitl [Hg1]; · iexists _; iexact Hg1
    isplitl [Hs']; · iexists _; iexact Hs'
    iexact Hbufs
  isplitl [HsemA HsemB HsemC Hsems]
  · isplitl [HsemA]; · iexact HsemA
    isplitl [HsemB]; · iexact HsemB
    isplitl [HsemC]; · iexact HsemC
    iexact Hsems
  iexists _
  isplitr
  rotate_left; · iexact HO
  ipureintro
  exact owing_insert hW

end Tile

end Cert.Proof.KI
-- ==== Proof.KIOblig.lean ====
module

public import proofs.«01_k».proof.Proof.KITile
public import Idealize.ShloMosaic.Lib.ShareLeaves

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open ShareLeaves (leaf pointsTo_leaves)

/-! ## The arrays, and what each tile holds of them -/

abbrev pLoc (d : Dev nD) : Loc nD τ sig := (SparseCore.T d : Thread nD τ).loc main_arg0
abbrev gLoc (d : Dev nD) : Loc nD τ sig := (SparseCore.T d : Thread nD τ).loc main_arg1
abbrev oLoc (d : Dev nD) : Loc nD τ sig := (SparseCore.T d : Thread nD τ).loc main_v0

/-- The row of the partial sums tile `i` of core `c` writes. -/
def rowOf (c : Fin 2) (i : Fin 16) : Fin 32 := ⟨2 * i.val + c.val, by omega⟩
/-- Core `c`'s share of an array read by every tile, and tile `i`'s of that. -/
abbrev coreShare (c : Fin 2) : PosShare TreeShare := leaf 1 fullShare c
abbrev tileShare (c : Fin 2) (i : Fin 16) : PosShare TreeShare := leaf 4 (coreShare c) i

variable (m : (ℓ : Loc nD τ sig) → Buf (Elt F) ℓ)

/-- The partial sums of device `d`'s launch arrays. -/
abbrev sums (d : Dev nD) : Buf (Elt F) (oLoc d) := partials (F := F) (m (pLoc d)) (m (gLoc d))

abbrev tilePts (d : Dev nD) (c : Fin 2) (i : Fin 16) (f : Buf (Elt F) (oLoc d)) : sProp 𝕄 :=
  iprop((pLoc d ↦{tileShare c i} m (pLoc d)) ∗ (gLoc d ↦{tileShare c i} m (gLoc d)) ∗ (oLoc d ↦[oRowSet (rowOf c i)]{fullShare} f))
abbrev corePts (d : Dev nD) (c : Fin 2) (f : Buf (Elt F) (oLoc d)) : sProp 𝕄 :=
  iprop((pLoc d ↦{coreShare c} m (pLoc d)) ∗ (gLoc d ↦{coreShare c} m (gLoc d))
    ∗ bigSep Finset.univ fun i : Fin 16 => (oLoc d ↦[oRowSet (rowOf c i)]{fullShare} f : sProp 𝕄))

/-- What the call's handshakes carry: a core its shares of the two inputs and its sixteen rows of the sums, a tile its
    shares and its row; back they come with the rows at their partial sums. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (sums m d)
  go := fun q d c i => match q with | 0 => tilePts m d (Fin.cast nCore_zero c) (Fin.cast nSub_zero i) (m (oLoc d))
  td := fun q d c i => match q with | 0 => tilePts m d (Fin.cast nCore_zero c) (Fin.cast nSub_zero i) (sums m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (sums m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (sums m d)))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_partials (coordsV c s)
          pV (Memref.isWhole_whole _) gV (Memref.isWhole_whole _) oV (Memref.isWhole_whole _) p0 (Memref.isWhole_whole _) p1 (Memref.isWhole_whole _)
          g0 (Memref.isWhole_whole _) g1 (Memref.isWhole_whole _) stg (Memref.isWhole_whole _) cc0_scratch5 cc0_scratch6 cc0_scoped0) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tileShare (Fin.cast nCore_zero c) (Fin.cast nSub_zero i)) (m (pLoc d)) (m (gLoc d)) hF O W hO (m (oLoc d))).trans
    (wp_mono frame _ _ fun _ => obl_post)

/-! ## The rows split and join; the shares -/

omit [FloatOps F] [Named F] in
theorem oRowSet_eq (i : Fin 32) : oRowSet i = (orow i).set := by
  show ((View.whole (main_v0_scv : Ref sig .scVector)).slice (orow i)).set = _
  rw [View.set_slice]; exact Finset.map_refl
omit [FloatOps F] [Named F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [Named F] in
theorem orows_cover : (Finset.univ : Finset (Fin 32)).biUnion oRowSet = Finset.univ :=
  (Finset.biUnion_congr rfl fun i _ => oRowSet_eq i).trans (Rect.biUnion_part odiv)

/-- Core and tile, as the row they write. -/
def rowEquiv : Fin 2 × Fin 16 ≃ Fin 32 where
  toFun x := rowOf x.1 x.2
  invFun r := (⟨r.val % 2, by omega⟩, ⟨r.val / 2, by omega⟩)
  left_inv x := by
    obtain ⟨c, i⟩ := x
    refine Prod.ext (Fin.ext ?_) (Fin.ext ?_) <;> simp only [rowOf] <;> omega
  right_inv r := Fin.ext (by simp only [rowOf]; omega)

omit [FloatOps F] [Named F] in
theorem oPts_rows (d : Dev nD) (f : Buf (Elt F) (oLoc d)) :
    (oLoc d ↦{fullShare} f : sProp 𝕄) = bigSep Finset.univ fun c : Fin 2 => bigSep Finset.univ fun i : Fin 16 => oLoc d ↦[oRowSet (rowOf c i)]{fullShare} f := by
  rw [← bigSep_univ_prod (fun x : Fin 2 × Fin 16 => (oLoc d ↦[oRowSet (rowOf x.1 x.2)]{fullShare} f : sProp 𝕄)),
    show (bigSep Finset.univ fun x : Fin 2 × Fin 16 => (oLoc d ↦[oRowSet (rowOf x.1 x.2)]{fullShare} f : sProp 𝕄))
      = bigSep Finset.univ fun r : Fin 32 => (oLoc d ↦[oRowSet r]{fullShare} f : sProp 𝕄)
      from (bigSep_univ_equiv rowEquiv (fun r : Fin 32 => (oLoc d ↦[oRowSet r]{fullShare} f : sProp 𝕄))).symm,
    ← pointsTo_biUnion Finset.univ (ℓ := oLoc d) oRowSet orows_disjoint, orows_cover]

omit [FloatOps F] [Named F] in
theorem cores_eq (d : Dev nD) (f : Buf (Elt F) (oLoc d)) :
    (bigSep Finset.univ fun c : Fin ((K (F := F)).nCore 0) => corePts m d (Fin.cast nCore_zero c) f)
      = iprop((pLoc d ↦{fullShare} m (pLoc d)) ∗ (gLoc d ↦{fullShare} m (gLoc d)) ∗ (oLoc d ↦{fullShare} f)) := by
  rw [show (bigSep Finset.univ fun c : Fin ((K (F := F)).nCore 0) => corePts m d (Fin.cast nCore_zero c) f)
      = bigSep Finset.univ fun c : Fin 2 => corePts m d c f from bigSep_congr fun _ _ => congrArg (fun c => corePts m d c f) (Fin.ext rfl),
    bigSep_sep', bigSep_sep', oPts_rows d f,
    pointsTo_leaves Finset.univ (m (pLoc d)) 1 fullShare, pointsTo_leaves Finset.univ (m (gLoc d)) 1 fullShare]
  rfl

theorem st0_eq (d : Dev nD) : (bigSep Finset.univ fun c : Fin ((K (F := F)).nCore 0) => (P m).st 0 d c)
    = iprop((pLoc d ↦{fullShare} m (pLoc d)) ∗ (gLoc d ↦{fullShare} m (gLoc d)) ∗ (oLoc d ↦{fullShare} m (oLoc d))) := cores_eq m d _
theorem dn0_eq (d : Dev nD) : (bigSep Finset.univ fun c : Fin ((K (F := F)).nCore 0) => (P m).dn 0 d c)
    = iprop((pLoc d ↦{fullShare} m (pLoc d)) ∗ (gLoc d ↦{fullShare} m (gLoc d)) ∗ (oLoc d ↦{fullShare} sums m d)) := cores_eq m d _

omit [FloatOps F] [Named F] in
theorem tiles_eq (d : Dev nD) (c : Fin 2) (f : Buf (Elt F) (oLoc d)) :
    (bigSep Finset.univ fun i : Fin ((K (F := F)).nSub 0) => tilePts m d c (Fin.cast nSub_zero i) f) = corePts m d c f := by
  rw [show (bigSep Finset.univ fun i : Fin ((K (F := F)).nSub 0) => tilePts m d c (Fin.cast nSub_zero i) f)
      = bigSep Finset.univ fun i : Fin 16 => tilePts m d c i f from bigSep_congr fun _ _ => congrArg (fun i => tilePts m d c i f) (Fin.ext rfl),
    bigSep_sep', bigSep_sep']
  unfold corePts
  rw [pointsTo_leaves Finset.univ (m (pLoc d)) 4 (coreShare c), pointsTo_leaves Finset.univ (m (gLoc d)) 4 (coreShare c)]
  rfl

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (sums m d))
          -∗ corePts m d (Fin.cast nCore_zero c) (sums m d)))
  rw [tiles_eq, tiles_eq]
  iintro H; imodintro
  isplitl [H]; · iexact H
  iintro H
  iexact H

end Cert.Proof.KI
-- ==== Proof.KIMain.lean ====
module

public import proofs.«01_k».proof.Proof.KISegs
public import proofs.«01_k».proof.Proof.KIOblig
public import Idealize.ShloMosaic.Lib.SparseCore.Launch

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers between the calls -/

/-- The waits a TensorCore may have recorded once the SparseCore call is over. -/
def recB (c : Dev nD) : Set (SemLoc sig × HIx 1) := {p | (K (F := F)).lev ((SparseCore.T c : Thread nD τ), p.1) p.2 ≤ 8 * SparseCore.Cfg.Blocks.fst 1 1 1}

theorem recB_none (c : Dev nD) (s : SemLoc sig) : (s, (none : HIx 1)) ∈ recB (F := F) c := Nat.zero_le _

abbrev ops1 : List (HloOp τ sig (Elt F)) :=
  [StableHlo.reshape main_arg0 main_v1 (rfl : (.f32 : EltTy) = .f32) shapeCasts_S8388608_S65536x128,
    StableHlo.reshape main_arg1 main_v2 (rfl : (.f32 : EltTy) = .f32) shapeCasts_S8388608_S65536x128]
abbrev ops2 : List (HloOp τ sig (Elt F)) :=
  [StableHlo.reshape main_v4 main_v5 (rfl : (.f32 : EltTy) = .f32) shapeCasts_S1x1_S_]

/-- The buffers at the launch, after the SparseCore call, after the reshapes, after the accumulation, after the
    combination, and at the end. -/
def val0 (c : Dev nD) : Valuation τ sig (Elt F) := fun b => m (c, b)
def val1 (c : Dev nD) : Valuation τ sig (Elt F) := Function.update (val0 m c) (Proc.devRef .tc main_v0) (sums m c)
def val2 (c : Dev nD) : Valuation τ sig (Elt F) := StableHlo.after ops1 (val1 m c)
def val3 (c : Dev nD) : Valuation τ sig (Elt F) :=
  Function.update (val2 m c) (Proc.devRef .tc main_v3) ((dat1 (val2 m) (recB (F := F)) c).arrAt 2 cfg1.N)
def val4 (c : Dev nD) : Valuation τ sig (Elt F) :=
  Function.update (val3 m c) (Proc.devRef .tc main_v4) ((dat2 (val3 m) (recB (F := F)) c).arrAt 2 cfg2.N)
def val5 (c : Dev nD) : Valuation τ sig (Elt F) := StableHlo.after ops2 (val4 m c)

theorem devRef_ne {b b' : Ref sig .tc} (h : b ≠ b') : (Proc.devRef .tc b : DevRef τ sig) ≠ Proc.devRef .tc b' :=
  fun e => h (Proc.devRef_injective _ e)

theorem ops1_sub : ∀ op ∈ (ops1 (F := F)), op.bufs ⊆ Pipeline.ucRefs τ sig := by
  intro op hop
  rcases List.mem_cons.mp hop with rfl | hop
  · exact Pipeline.sub_ucRefs _ (by simp)
  · rcases List.mem_singleton.mp hop with rfl
    exact Pipeline.sub_ucRefs _ (by simp)
theorem ops1_fresh : ∀ op ∈ (ops1 (F := F)), op.fresh = ∅ := by
  intro op hop
  rcases List.mem_cons.mp hop with rfl | hop
  · rfl
  · rcases List.mem_singleton.mp hop with rfl
    rfl
theorem ops2_sub : ∀ op ∈ (ops2 (F := F)), op.bufs ⊆ Pipeline.ucRefs τ sig := by
  intro op hop
  rcases List.mem_singleton.mp hop with rfl
  exact Pipeline.sub_ucRefs _ (by simp)
theorem ops2_fresh : ∀ op ∈ (ops2 (F := F)), op.fresh = ∅ := by
  intro op hop
  rcases List.mem_singleton.mp hop with rfl
  rfl

/-! ## The TensorCore's program after the SparseCore call, as segments -/

abbrev datsM : (p : Fin 2) → (c : Dev nD) → Dat τ (Elt F) (HIx 1) ℕ UU ℕ (Pipeline.pin (pcfgs (F := F)) adm p) c :=
  pdats (recB (F := F)) (val2 m) (val3 m)

abbrev seg1 : Pipeline.HostSeg (Name := ℕ) (U := UU) (pcfgs (F := F)) defs₀ 𝒱₀ (Lc (F := F)) (lvc (F := F)) :=
  Pipeline.HostSeg.ofOps _ _ _ _ _ (Pipeline.ucRefs τ sig) ops1 ops1_sub ops1_fresh (val1 m) (owesB (recB (F := F)))
abbrev seg4 : Pipeline.HostSeg (Name := ℕ) (U := UU) (pcfgs (F := F)) defs₀ 𝒱₀ (Lc (F := F)) (lvc (F := F)) :=
  Pipeline.HostSeg.ofOps _ _ _ _ _ (Pipeline.ucRefs τ sig) ops2 ops2_sub ops2_fresh (val4 m) (owesB (recB (F := F)))
abbrev seg2 := reg1 (recB (F := F)) (val2 m) (val3 m) (val3 m) recB_none (fun c => Function.update_self _ _ _)
  (fun c b h => Function.update_of_ne (devRef_ne h) _ _)
abbrev seg3 := reg2 (recB (F := F)) (val2 m) (val3 m) (val4 m) recB_none (fun c => Function.update_self _ _ _)
  (fun c b h => Function.update_of_ne (devRef_ne h) _ _)

abbrev segs : List (Pipeline.Seg (pcfgs (F := F)) adm (datsM m) none defs₀ 𝒱₀ (Lc (F := F)) (lvc (F := F))) :=
  [.host (seg1 m), .region (seg2 m), .region (seg3 m), .host (seg4 m)]

theorem main_eq (d : Dev nD) : main (F := F) d = ((K (F := F)).run d 0 >>= fun _ => SparseCore.liftProg (Pipeline.Seg.run (segs m))) := by
  rfl

end Cert.Proof.KI
-- ==== Proof.KIRun.lean ====
module

public import proofs.«01_k».proof.Proof.KIMain
public import Idealize.ShloMosaic.Lib.SparseCore.Quiescent

@[expose] public section

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element of the certificate's ghost state -/

abbrev pins := Pipeline.pin (pcfgs (F := F)) adm

theorem pins_inj : Function.Injective (cellOf (nD := nD) (τ := τ) (pins (F := F))) := cellOf_inj

def u₀ : UU :=
  (initOf (K (F := F)).hsCells (K (F := F)).hsToks,
    (initOf (Pipeline.cells (pins (F := F)) pins_inj) (Pipeline.launchToks (pins (F := F)) pins_inj), 1))

abbrev G (d : Dev nD) : sProp 𝕄 := Pipeline.ghostOn (pcfgs (F := F)) adm (EP (F := F)) Finset.univ d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hghost : iprop((bigSep Finset.univ fun c : Dev nD => bigSep Finset.univ fun p => Pipeline.cellsGhost (pins (F := F)) (EP (F := F)) p c)
        ∗ (bigSep Finset.univ fun c : Dev nD => bigSep Finset.univ fun p => (Pipeline.toksInit (pins (F := F)) (EP (F := F)) p c : sProp 𝕄)))
      ⊢ bigSep Finset.univ fun c : Dev nD => G (F := F) c := by
    rw [← bigSep_sep']
    exact bigSep_mono fun c _ => show iprop((bigSep Finset.univ fun p => Pipeline.cellsGhost (pins (F := F)) (EP (F := F)) p c)
            ∗ bigSep Finset.univ fun p => (Pipeline.toksInit (pins (F := F)) (EP (F := F)) p c : sProp 𝕄)) ⊢ G (F := F) c
        from Entails.of_eq (by show _ = Pipeline.PerCore.ghostOn _ _ _ _ _; unfold Pipeline.PerCore.ghostOn; rw [bigSep_sep'])
  unfold u₀
  iintro Hu
  ihave H := (ownU_pair (initOf (K (F := F)).hsCells (K (F := F)).hsToks) ((initOf (Pipeline.cells (pins (F := F)) pins_inj) (Pipeline.launchToks (pins (F := F)) pins_inj), 1) : UP × Counters)) $$ Hu
  icases H with ⟨HH, HR⟩
  ihave H := (own_pair_emb (embR : Emb (UP × Counters) 𝕄) (initOf (Pipeline.cells (pins (F := F)) pins_inj) (Pipeline.launchToks (pins (F := F)) pins_inj)) (1 : Counters)) $$ HR
  icases H with ⟨HP, -⟩
  imod (Pipeline.fund_ghost (pins (F := F)) (EP (F := F)) pins_inj) $$ HP with ⟨Hg, Ht⟩
  imodintro
  isplitl [HH]; · iexact HH
  isplitl [Hg Ht]
  · iapply hghost
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep (Finset.univ : Finset (Thread nD τ)) fun _ => iprop(emp)) = (iprop(emp) : sProp 𝕄) from bigSep_emp_const _]
  iempintro

/-! ## @main on the TensorCore -/

/-- Every buffer of the launch but those the SparseCore call uses. -/
abbrev restBufs (d : Dev nD) (W : (b : Ref sig .tc) → Buf (Elt F) ((d.tc : Thread nD τ).loc b)) : sProp 𝕄 :=
  bigSep ({main_v1, main_v2, main_v3, main_v4, main_v5} : Finset (Ref sig .tc)) fun b => (d.tc : Thread nD τ).loc b ↦{fullShare} W b

theorem unscopedBufs_eq (d : Dev nD) (W : (b : Ref sig .tc) → Buf (Elt F) ((d.tc : Thread nD τ).loc b)) :
    (unscopedBufs d W : sProp 𝕄) = iprop((pLoc d ↦{fullShare} W main_arg0) ∗ (gLoc d ↦{fullShare} W main_arg1) ∗ (oLoc d ↦{fullShare} W main_v0) ∗ restBufs d W) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide)]

theorem val1_arg0 (d : Dev nD) : val1 m d main_arg0 = m (pLoc d) := Function.update_of_ne (devRef_ne (by decide)) _ _
theorem val1_arg1 (d : Dev nD) : val1 m d main_arg1 = m (gLoc d) := Function.update_of_ne (devRef_ne (by decide)) _ _
theorem val1_v0 (d : Dev nD) : val1 m d main_v0 = sums m d := Function.update_self _ _ _
theorem rest_val1 (d : Dev nD) : restBufs (F := F) d (fun b => m ((d.tc : Thread nD τ).loc b)) = restBufs d (fun b => val1 m d b) := by
  refine bigSep_congr fun b hb => ?_
  have hne : b ≠ main_v0 := by rintro rfl; revert hb; decide
  have h : val1 m d b = m ((d.tc : Thread nD τ).loc b) := Function.update_of_ne (devRef_ne hne) _ _
  simp only [h]

abbrev FIN (d : Dev nD) : sProp 𝕄 := unscopedBufs d (fun b => val5 m d b)

theorem chains : Pipeline.Seg.Chains (stateAt (recB (F := F)) (val1 m)) (segs m) (stateAt (recB (F := F)) (val5 m)) :=
  ⟨fun _ => .rfl, fun _ => .rfl, fun _ => .rfl, fun _ => .rfl, fun _ => .rfl⟩

/-- @main on device `d`'s TensorCore: the SparseCore call, then the segments. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, main_eq m d, wp_bind, rest_val1]
  iintro ⟨#Hctx, Hst, ⟨Hb, ⟨Hp, Hg, Ho, Hrest⟩, Hts, -⟩, HG⟩
  iapply ((K (F := F)).wp_run (D (F := F)) 𝒱 (EH := EH) (P := P m) κ d 0) $$ [Hst Hp Hg Ho Hrest Hb Hts HG]
  isplitr; · iexact Hctx
  isplitl [Hst]; · iexact Hst
  isplitl [Hp Hg Ho]
  · rw [st0_eq]
    isplitl [Hp]; · iexact Hp
    isplitl [Hg]; · iexact Hg
    iexact Ho
  iintro ⟨Hst, Hdn⟩
  ihave Hdn' := (Entails.of_eq (dn0_eq m d)) $$ Hdn
  icases Hdn' with ⟨Hp, Hg, Ho⟩
  unfold SparseCore.Cfg.tcSt
  icases Hst with ⟨⟨%W, %hW, HO⟩, Hst⟩
  iapply ((K (F := F)).wp_liftProg (D (F := F)) 𝒱 (SparseCore.T d) Set.univ none (Pipeline.Seg.run (segs m)) _)
  iapply (Pipeline.wp_segs (pcfgs (F := F)) adm (datsM m) none pins_inj (EP (F := F)) defs₀ 𝒱₀ (Lc (F := F)) (lvc (F := F)) d (segs m) Finset.univ
    (stateAt (recB (F := F)) (val1 m)) (stateAt (recB (F := F)) (val5 m)) (show ([0, 1] : List (Fin 2)).Nodup by decide) (by intro p _; exact Finset.mem_univ p) (chains m))
  isplitl [Hst Hts]
  · iintro ⟨Hb, HT⟩
    ihave HT' := (Entails.of_eq (stateAt_eq (recB (F := F)) (val5 m) d)) $$ HT
    icases HT' with ⟨HB, HO⟩
    unfold owesB
    icases HO with ⟨%W', %hW', HO⟩
    isplitl [Hst HO]
    · isplitl [HO]
      · iexists W'
        isplitr; · ipureintro; exact hW'
        rw [(K (F := F)).Otc_end d le_rfl]
        iexact HO
      iexact Hst
    isplitl [HB]; · iexact HB
    isplitl [Hb] <;> iassumption
  isplitl [Hb]; · iexact Hb
  isplitl [Hp Hg Ho Hrest HO]
  · rw [stateAt_eq, unscopedBufs_eq, val1_arg0, val1_arg1, val1_v0]
    isplitl [Hp Hg Ho Hrest]
    · isplitl [Hp]; · iexact Hp
      isplitl [Hg]; · iexact Hg
      isplitl [Ho]; · iexact Ho
      iexact Hrest
    unfold owesB
    iexists W
    isplitr; · ipureintro; exact hW
    rw [show (K (F := F)).Otc d ((0 : Fin 1).val + 1) = 0 from (K (F := F)).Otc_end d le_rfl]
    iexact HO
  isplitr
  · iapply (SparseCore.Cfg.ctx_levAts κ); iexact Hctx
  iexact HG

/-! ## The end -/

abbrev rLoc (d : Dev nD) : Loc nD τ sig := (SparseCore.T d : Thread nD τ).loc main_v5

theorem val5_arg {d : Dev nD} {b : Ref sig .tc} (h5 : b ≠ main_v5) (h4 : b ≠ main_v4) (h3 : b ≠ main_v3) (h2 : b ≠ main_v2) (h1 : b ≠ main_v1)
    (h0 : b ≠ main_v0) : val5 m d b = m ((d.tc : Thread nD τ).loc b) := by
  have e5 : val5 m d b = val4 m d b := StableHlo.after_of_writes_sub (W := [main_v5]) _ _ (by simp) (by simp [h5])
  have e4 : val4 m d b = val3 m d b := Function.update_of_ne (devRef_ne h4) _ _
  have e3 : val3 m d b = val2 m d b := Function.update_of_ne (devRef_ne h3) _ _
  have e2 : val2 m d b = val1 m d b := StableHlo.after_of_writes_sub (W := [main_v1, main_v2]) _ _ (by simp) (by simp [h1, h2])
  have e1 : val1 m d b = m ((d.tc : Thread nD τ).loc b) := Function.update_of_ne (devRef_ne h0) _ _
  rw [e5, e4, e3, e2, e1]

theorem val5_arg0 (d : Dev nD) : val5 m d main_arg0 = m (pLoc d) :=
  val5_arg m (by decide) (by decide) (by decide) (by decide) (by decide) (by decide)
theorem val5_arg1 (d : Dev nD) : val5 m d main_arg1 = m (gLoc d) :=
  val5_arg m (by decide) (by decide) (by decide) (by decide) (by decide) (by decide)

/-- The result the program leaves on device `d`. -/
def result (d : Dev nD) : Buf (Elt F) (rLoc d) := val5 m d main_v5

theorem fin_bufs (d : Dev nD) : (FIN m d : sProp 𝕄)
    ⊢ iprop((pLoc d ↦{fullShare} m (pLoc d)) ∗ (gLoc d ↦{fullShare} m (gLoc d)) ∗ (rLoc d ↦{fullShare} result m d)) := by
  unfold FIN
  rw [unscopedBufs_eq, val5_arg0, val5_arg1]
  unfold restBufs
  rw [SparseCore.bigSep_insert' (by decide), SparseCore.bigSep_insert' (by decide), SparseCore.bigSep_insert' (by decide), SparseCore.bigSep_insert' (by decide),
    bigSep_singleton]
  iintro ⟨Hp, Hg, -, -, -, -, -, Hr⟩
  isplitl [Hp]; · iexact Hp
  isplitl [Hg]; · iexact Hg
  iexact Hr

def fq (d : Dev nD) (s' : Phys nD τ sig (Elt F)) : Prop :=
  s'.mem.mem (rLoc d) = result m d ∧ s'.mem.mem (pLoc d) = m (pLoc d) ∧ s'.mem.mem (gLoc d) = m (gLoc d)

set_option maxRecDepth 16384 in
theorem hfin (d : Dev nD) (s' : Phys nD τ sig (Elt F)) : iprop(FIN m d ∗ SI s') ⊢ (⌜fq m d s'⌝ : sProp 𝕄) := by
  iintro ⟨HF, HSI⟩
  ihave H := (fin_bufs m d) $$ HF
  icases H with ⟨Hp, Hg, Hr⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (rLoc c) = result m c ∧ r.2.mem (pLoc c) = m (pLoc c) ∧ r.2.mem (gLoc c) = m (gLoc c)) ∧ r.2.sem = fun _ => 0

theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-- The kernel at exact arithmetic ends, every semaphore at zero, with its arguments as they were. -/
theorem frame : Cert.quiescent_KernelIdeal := fun m ρ _ =>
  (θ_run Cert.KernelIdeal.defs _ _).mono (fun _ h => ⟨fun c => (h.1 c).2, h.2⟩) (run_main (F := Ideal) m ρ)

end Cert.Proof.KI
-- ==== Proof.RRun.lean ====
module

public import proofs.«01_k».proof.Defs
public import Idealize.ShloMosaic.Lib.StableHlo.Run
public import Idealize.ShloMosaic.Lib.StableHlo.RunRead
public import proofs.«01_k».proof.Proof.Gen.ReferenceIdeal

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-! ## @main's operations, in order, by what they compute -/

/-- The bins' ranges. -/
abbrev opsR : List (HloOp τ sig (Elt F)) :=
  [ nullary main_cst (fun i => FloatOps.ofBits .f32 (lit0 (S20.rowMajor i))),
    nullary main_cst_0 (constant S_ .f32 0x00000000#32),
    nullary main_cst_1 (constant S_ .f32 0x3F800000#32),
    TRef.unary ((.of main_cst_0) : TRef sig ⟨S_, .f32⟩) main_call0.v0 id,
    TRef.unary ((.of main_cst_1) : TRef sig ⟨S_, .f32⟩) main_call0.v1 id,
    TRef.binary main_call0.v1 main_call0.v0 main_call0.v2 subf,
    TRef.nullary main_call0.cst (constant S_ .f32 0x41200000#32),
    TRef.binary main_call0.v2 main_call0.cst main_call0.v3 Host.divf,
    TRef.nullary main_call0.v4 (sitofp .f32 (iotaInDim S10 32 0)),
    TRef.nullary main_call0.cst_0 (constant S_ .f32 0x41200000#32),
    TRef.unary main_call0.cst_0 main_call0.v5 (broadcastInDim S10 ![] bcast_S_S10),
    TRef.binary main_call0.v4 main_call0.v5 main_call0.v6 Host.divf,
    TRef.reshape main_call0.v0 main_call0.v7 (rfl : (.f32 : EltTy) = .f32) shapeCasts_S_S1,
    TRef.nullary main_call0.cst_1 (constant S_ .f32 0x3F800000#32),
    TRef.unary main_call0.cst_1 main_call0.v8 (broadcastInDim S10 ![] bcast_S_S10),
    TRef.binary main_call0.v8 main_call0.v6 main_call0.v9 subf,
    TRef.unary main_call0.v7 main_call0.v10 (broadcastInDim S10 ![0] bcast_S1_S10_0),
    TRef.binary main_call0.v10 main_call0.v9 main_call0.v11 mulf,
    TRef.reshape main_call0.v1 main_call0.v12 (rfl : (.f32 : EltTy) = .f32) shapeCasts_S_S1,
    TRef.unary main_call0.v12 main_call0.v13 (broadcastInDim S10 ![0] bcast_S1_S10_0),
    TRef.binary main_call0.v13 main_call0.v6 main_call0.v14 mulf,
    TRef.binary main_call0.v11 main_call0.v14 main_call0.v15 addf,
    TRef.unary main_call0.v1 main_call0.v16 (broadcastInDim S1 ![] bcast_S_S1),
    TRef.binary main_call0.v15 main_call0.v16 main_call0.v17 (fun a b => concatenate S11 0 [⟨S10, a⟩, ⟨S1, b⟩] concatenates_S10_S1_S11_d0),
    unary main_v0 main_v1 ((extractStridedSlice S10 ![0] · slices_S11_S10_0) : (⟨S11, .f32⟩ : BufTy).Contents (Elt F) → (⟨S10, .f32⟩ : BufTy).Contents (Elt F)) ]

/-- The histogram of the targets. -/
abbrev opsH : List (HloOp τ sig (Elt F)) :=
  [ nullary main_cst_2 (constant S_ .f32 0x41200000#32),
    unary main_cst_2 main_v2 (broadcastInDim S20 ![] bcast_S_S20 : (⟨S_, .f32⟩ : BufTy).Contents (Elt F) → (⟨S20, .f32⟩ : BufTy).Contents (Elt F)),
    binary main_v2 main_cst main_v3 (mulf : (⟨S20, .f32⟩ : BufTy).Contents (Elt F) → (⟨S20, .f32⟩ : BufTy).Contents (Elt F) → (⟨S20, .f32⟩ : BufTy).Contents (Elt F)),
    unary main_v3 main_v4 (fptosi 32 : (⟨S20, .f32⟩ : BufTy).Contents (Elt F) → (⟨S20, .i32⟩ : BufTy).Contents (Elt F)),
    nullary main_c (constantI S_ 32 0#32),
    unary main_c main_v5 (broadcastInDim S10 ![] bcast_S_S10 : (⟨S_, .i32⟩ : BufTy).Contents (Elt F) → (⟨S10, .i32⟩ : BufTy).Contents (Elt F)),
    nullary main_c_3 (constantI S_ 32 0#32),
    TRef.unary ((.of main_c_3) : TRef sig ⟨S_, .i32⟩) main_call1.v0 id,
    TRef.unary main_call1.v0 main_call1.v1 (broadcastInDim S20 ![] bcast_S_S20),
    TRef.binary main_call1.v1 ((.of main_v4) : TRef sig ⟨S20, .i32⟩) main_call1.v2 maxsi,
    nullary main_c_4 (constantI S_ 32 0#32),
    unary main_c_4 main_v7 (broadcastInDim S20 ![] bcast_S_S20 : (⟨S_, .i32⟩ : BufTy).Contents (Elt F) → (⟨S20, .i32⟩ : BufTy).Contents (Elt F)),
    binary main_v6 main_v7 main_v8 (cmpi .slt : (⟨S20, .i32⟩ : BufTy).Contents (Elt F) → (⟨S20, .i32⟩ : BufTy).Contents (Elt F) → (⟨S20, .i1⟩ : BufTy).Contents (Elt F)),
    nullary main_c_5 (constantI S_ 32 10#32),
    unary main_c_5 main_v9 (broadcastInDim S20 ![] bcast_S_S20 : (⟨S_, .i32⟩ : BufTy).Contents (Elt F) → (⟨S20, .i32⟩ : BufTy).Contents (Elt F)),
    binary main_v6 main_v9 main_v10 (addi : (⟨S20, .i32⟩ : BufTy).Contents (Elt F) → (⟨S20, .i32⟩ : BufTy).Contents (Elt F) → (⟨S20, .i32⟩ : BufTy).Contents (Elt F)),
    ternary main_v8 main_v10 main_v6 main_v11 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    unary main_v11 main_v12 (broadcastInDim S20x1 ![0] bcast_S20_S20x1_0 : (⟨S20, .i32⟩ : BufTy).Contents (Elt F) → (⟨S20x1, .i32⟩ : BufTy).Contents (Elt F)),
    nullary main_c_6 (constantI S_ 32 1#32),
    unary main_c_6 main_v13 (broadcastInDim S20 ![] bcast_S_S20 : (⟨S_, .i32⟩ : BufTy).Contents (Elt F) → (⟨S20, .i32⟩ : BufTy).Contents (Elt F)),
    ternary main_v5 main_v12 main_v13 main_v14 ((fun x i u => Host.scatter scatter_S10_S20x1_S20_n_0_0_1 IntOp.addi x i u) : (⟨S10, .i32⟩ : BufTy).Contents (Elt F) → (⟨S20x1, .i32⟩ : BufTy).Contents (Elt F) → (⟨S20, .i32⟩ : BufTy).Contents (Elt F) → (⟨S10, .i32⟩ : BufTy).Contents (Elt F)) ]

/-- The nearest range of each target. -/
abbrev opsA : List (HloOp τ sig (Elt F)) :=
  [ unary main_arg1 main_v15 (broadcastInDim S8388608x1 ![0] bcast_S8388608_S8388608x1_0 : (⟨S8388608, .f32⟩ : BufTy).Contents (Elt F) → (⟨S8388608x1, .f32⟩ : BufTy).Contents (Elt F)),
    unary main_v1 main_v16 (broadcastInDim S1x10 ![1] bcast_S10_S1x10_1 : (⟨S10, .f32⟩ : BufTy).Contents (Elt F) → (⟨S1x10, .f32⟩ : BufTy).Contents (Elt F)),
    unary main_v15 main_v17 (broadcastInDim S8388608x10 ![0, 1] bcast_S8388608x1_S8388608x10_0_1 : (⟨S8388608x1, .f32⟩ : BufTy).Contents (Elt F) → (⟨S8388608x10, .f32⟩ : BufTy).Contents (Elt F)),
    unary main_v16 main_v18 (broadcastInDim S8388608x10 ![0, 1] bcast_S1x10_S8388608x10_0_1 : (⟨S1x10, .f32⟩ : BufTy).Contents (Elt F) → (⟨S8388608x10, .f32⟩ : BufTy).Contents (Elt F)),
    binary main_v17 main_v18 main_v19 (subf : (⟨S8388608x10, .f32⟩ : BufTy).Contents (Elt F) → (⟨S8388608x10, .f32⟩ : BufTy).Contents (Elt F) → (⟨S8388608x10, .f32⟩ : BufTy).Contents (Elt F)),
    unary main_v19 main_v20 (Host.absf : (⟨S8388608x10, .f32⟩ : BufTy).Contents (Elt F) → (⟨S8388608x10, .f32⟩ : BufTy).Contents (Elt F)),
    TRef.nullary main_call2.v0 (iotaInDim S8388608x10 32 1),
    TRef.nullary main_call2.cst (constant S_ .f32 0x7F800000#32),
    TRef.nullary main_call2.c (constantI S_ 32 0#32),
    TRef.quaternary ((.of main_v20) : TRef sig ⟨S8388608x10, .f32⟩) main_call2.v0 main_call2.cst main_call2.c main_call2.v1_0 (fun x y u v j => (Host.argReduce reducer_argmin_f32_i32 x y u v reducesTo_S8388608x10_S8388608_d1 h_S_ j).1),
    TRef.quaternary ((.of main_v20) : TRef sig ⟨S8388608x10, .f32⟩) main_call2.v0 main_call2.cst main_call2.c main_call2.v1_1 (fun x y u v j => (Host.argReduce reducer_argmin_f32_i32 x y u v reducesTo_S8388608x10_S8388608_d1 h_S_ j).2) ]

/-- Bin 0 overwritten by its count. -/
abbrev opsW0 : List (HloOp τ sig (Elt F)) :=
  [ nullary main_c_7 (constantI S_ 32 0#32),
    unary main_c_7 main_v22 (broadcastInDim S8388608 ![] bcast_S_S8388608 : (⟨S_, .i32⟩ : BufTy).Contents (Elt F) → (⟨S8388608, .i32⟩ : BufTy).Contents (Elt F)),
    binary main_v21 main_v22 main_v23 (cmpi .eq : (⟨S8388608, .i32⟩ : BufTy).Contents (Elt F) → (⟨S8388608, .i32⟩ : BufTy).Contents (Elt F) → (⟨S8388608, .i1⟩ : BufTy).Contents (Elt F)),
    unary main_v14 main_v24 ((extractStridedSlice S1 ![0] · slices_S10_S1_0) : (⟨S10, .i32⟩ : BufTy).Contents (Elt F) → (⟨S1, .i32⟩ : BufTy).Contents (Elt F)),
    reshape main_v24 main_v25 (rfl : (.i32 : EltTy) = .i32) shapeCasts_S1_S_,
    TRef.unary ((.of main_v25) : TRef sig ⟨S_, .i32⟩) main_call3.v0 (broadcastInDim S8388608 ![] bcast_S_S8388608),
    TRef.ternary ((.of main_v23) : TRef sig ⟨S8388608, .i1⟩) main_call3.v0 ((.of main_v21) : TRef sig ⟨S8388608, .i32⟩) main_call3.v1 select ]

/-- Bin 1 overwritten by its count. -/
abbrev opsW1 : List (HloOp τ sig (Elt F)) :=
  [ nullary main_c_8 (constantI S_ 32 1#32),
    unary main_c_8 main_v27 (broadcastInDim S8388608 ![] bcast_S_S8388608 : (⟨S_, .i32⟩ : BufTy).Contents (Elt F) → (⟨S8388608, .i32⟩ : BufTy).Contents (Elt F)),
    binary main_v26 main_v27 main_v28 (cmpi .eq : (⟨S8388608, .i32⟩ : BufTy).Contents (Elt F) → (⟨S8388608, .i32⟩ : BufTy).Contents (Elt F) → (⟨S8388608, .i1⟩ : BufTy).Contents (Elt F)),
    unary main_v14 main_v29 ((extractStridedSlice S1 ![1] · slices_S10_S1_1) : (⟨S10, .i32⟩ : BufTy).Contents (Elt F) → (⟨S1, .i32⟩ : BufTy).Contents (Elt F)),
    reshape main_v29 main_v30 (rfl : (.i32 : EltTy) = .i32) shapeCasts_S1_S_,
    TRef.unary ((.of main_v30) : TRef sig ⟨S_, .i32⟩) main_call4.v0 (broadcastInDim S8388608 ![] bcast_S_S8388608),
    TRef.ternary ((.of main_v28) : TRef sig ⟨S8388608, .i1⟩) main_call4.v0 ((.of main_v26) : TRef sig ⟨S8388608, .i32⟩) main_call4.v1 select ]

/-- Bin 2 overwritten by its count. -/
abbrev opsW2 : List (HloOp τ sig (Elt F)) :=
  [ nullary main_c_9 (constantI S_ 32 2#32),
    unary main_c_9 main_v32 (broadcastInDim S8388608 ![] bcast_S_S8388608 : (⟨S_, .i32⟩ : BufTy).Contents (Elt F) → (⟨S8388608, .i32⟩ : BufTy).Contents (Elt F)),
    binary main_v31 main_v32 main_v33 (cmpi .eq : (⟨S8388608, .i32⟩ : BufTy).Contents (Elt F) → (⟨S8388608, .i32⟩ : BufTy).Contents (Elt F) → (⟨S8388608, .i1⟩ : BufTy).Contents (Elt F)),
    unary main_v14 main_v34 ((extractStridedSlice S1 ![2] · slices_S10_S1_2) : (⟨S10, .i32⟩ : BufTy).Contents (Elt F) → (⟨S1, .i32⟩ : BufTy).Contents (Elt F)),
    reshape main_v34 main_v35 (rfl : (.i32 : EltTy) = .i32) shapeCasts_S1_S_,
    TRef.unary ((.of main_v35) : TRef sig ⟨S_, .i32⟩) main_call5.v0 (broadcastInDim S8388608 ![] bcast_S_S8388608),
    TRef.ternary ((.of main_v33) : TRef sig ⟨S8388608, .i1⟩) main_call5.v0 ((.of main_v31) : TRef sig ⟨S8388608, .i32⟩) main_call5.v1 select ]

/-- Bin 3 overwritten by its count. -/
abbrev opsW3 : List (HloOp τ sig (Elt F)) :=
  [ nullary main_c_10 (constantI S_ 32 3#32),
    unary main_c_10 main_v37 (broadcastInDim S8388608 ![] bcast_S_S8388608 : (⟨S_, .i32⟩ : BufTy).Contents (Elt F) → (⟨S8388608, .i32⟩ : BufTy).Contents (Elt F)),
    binary main_v36 main_v37 main_v38 (cmpi .eq : (⟨S8388608, .i32⟩ : BufTy).Contents (Elt F) → (⟨S8388608, .i32⟩ : BufTy).Contents (Elt F) → (⟨S8388608, .i1⟩ : BufTy).Contents (Elt F)),
    unary main_v14 main_v39 ((extractStridedSlice S1 ![3] · slices_S10_S1_3) : (⟨S10, .i32⟩ : BufTy).Contents (Elt F) → (⟨S1, .i32⟩ : BufTy).Contents (Elt F)),
    reshape main_v39 main_v40 (rfl : (.i32 : EltTy) = .i32) shapeCasts_S1_S_,
    TRef.unary ((.of main_v40) : TRef sig ⟨S_, .i32⟩) main_call6.v0 (broadcastInDim S8388608 ![] bcast_S_S8388608),
    TRef.ternary ((.of main_v38) : TRef sig ⟨S8388608, .i1⟩) main_call6.v0 ((.of main_v36) : TRef sig ⟨S8388608, .i32⟩) main_call6.v1 select ]

/-- Bin 4 overwritten by its count. -/
abbrev opsW4 : List (HloOp τ sig (Elt F)) :=
  [ nullary main_c_11 (constantI S_ 32 4#32),
    unary main_c_11 main_v42 (broadcastInDim S8388608 ![] bcast_S_S8388608 : (⟨S_, .i32⟩ : BufTy).Contents (Elt F) → (⟨S8388608, .i32⟩ : BufTy).Contents (Elt F)),
    binary main_v41 main_v42 main_v43 (cmpi .eq : (⟨S8388608, .i32⟩ : BufTy).Contents (Elt F) → (⟨S8388608, .i32⟩ : BufTy).Contents (Elt F) → (⟨S8388608, .i1⟩ : BufTy).Contents (Elt F)),
    unary main_v14 main_v44 ((extractStridedSlice S1 ![4] · slices_S10_S1_4) : (⟨S10, .i32⟩ : BufTy).Contents (Elt F) → (⟨S1, .i32⟩ : BufTy).Contents (Elt F)),
    reshape main_v44 main_v45 (rfl : (.i32 : EltTy) = .i32) shapeCasts_S1_S_ ]

/-- The rest of that. -/
abbrev opsW4' : List (HloOp τ sig (Elt F)) :=
  [ TRef.unary ((.of main_v45) : TRef sig ⟨S_, .i32⟩) main_call7.v0 (broadcastInDim S8388608 ![] bcast_S_S8388608),
    TRef.ternary ((.of main_v43) : TRef sig ⟨S8388608, .i1⟩) main_call7.v0 ((.of main_v41) : TRef sig ⟨S8388608, .i32⟩) main_call7.v1 select ]

/-- Bin 5 overwritten by its count. -/
abbrev opsW5 : List (HloOp τ sig (Elt F)) :=
  [ nullary main_c_12 (constantI S_ 32 5#32),
    unary main_c_12 main_v47 (broadcastInDim S8388608 ![] bcast_S_S8388608 : (⟨S_, .i32⟩ : BufTy).Contents (Elt F) → (⟨S8388608, .i32⟩ : BufTy).Contents (Elt F)),
    binary main_v46 main_v47 main_v48 (cmpi .eq : (⟨S8388608, .i32⟩ : BufTy).Contents (Elt F) → (⟨S8388608, .i32⟩ : BufTy).Contents (Elt F) → (⟨S8388608, .i1⟩ : BufTy).Contents (Elt F)),
    unary main_v14 main_v49 ((extractStridedSlice S1 ![5] · slices_S10_S1_5) : (⟨S10, .i32⟩ : BufTy).Contents (Elt F) → (⟨S1, .i32⟩ : BufTy).Contents (Elt F)),
    reshape main_v49 main_v50 (rfl : (.i32 : EltTy) = .i32) shapeCasts_S1_S_,
    TRef.unary ((.of main_v50) : TRef sig ⟨S_, .i32⟩) main_call8.v0 (broadcastInDim S8388608 ![] bcast_S_S8388608),
    TRef.ternary ((.of main_v48) : TRef sig ⟨S8388608, .i1⟩) main_call8.v0 ((.of main_v46) : TRef sig ⟨S8388608, .i32⟩) main_call8.v1 select ]

/-- Bin 6 overwritten by its count. -/
abbrev opsW6 : List (HloOp τ sig (Elt F)) :=
  [ nullary main_c_13 (constantI S_ 32 6#32),
    unary main_c_13 main_v52 (broadcastInDim S8388608 ![] bcast_S_S8388608 : (⟨S_, .i32⟩ : BufTy).Contents (Elt F) → (⟨S8388608, .i32⟩ : BufTy).Contents (Elt F)),
    binary main_v51 main_v52 main_v53 (cmpi .eq : (⟨S8388608, .i32⟩ : BufTy).Contents (Elt F) → (⟨S8388608, .i32⟩ : BufTy).Contents (Elt F) → (⟨S8388608, .i1⟩ : BufTy).Contents (Elt F)),
    unary main_v14 main_v54 ((extractStridedSlice S1 ![6] · slices_S10_S1_6) : (⟨S10, .i32⟩ : BufTy).Contents (Elt F) → (⟨S1, .i32⟩ : BufTy).Contents (Elt F)),
    reshape main_v54 main_v55 (rfl : (.i32 : EltTy) = .i32) shapeCasts_S1_S_,
    TRef.unary ((.of main_v55) : TRef sig ⟨S_, .i32⟩) main_call9.v0 (broadcastInDim S8388608 ![] bcast_S_S8388608),
    TRef.ternary ((.of main_v53) : TRef sig ⟨S8388608, .i1⟩) main_call9.v0 ((.of main_v51) : TRef sig ⟨S8388608, .i32⟩) main_call9.v1 select ]

/-- Bin 7 overwritten by its count. -/
abbrev opsW7 : List (HloOp τ sig (Elt F)) :=
  [ nullary main_c_14 (constantI S_ 32 7#32),
    unary main_c_14 main_v57 (broadcastInDim S8388608 ![] bcast_S_S8388608 : (⟨S_, .i32⟩ : BufTy).Contents (Elt F) → (⟨S8388608, .i32⟩ : BufTy).Contents (Elt F)),
    binary main_v56 main_v57 main_v58 (cmpi .eq : (⟨S8388608, .i32⟩ : BufTy).Contents (Elt F) → (⟨S8388608, .i32⟩ : BufTy).Contents (Elt F) → (⟨S8388608, .i1⟩ : BufTy).Contents (Elt F)),
    unary main_v14 main_v59 ((extractStridedSlice S1 ![7] · slices_S10_S1_7) : (⟨S10, .i32⟩ : BufTy).Contents (Elt F) → (⟨S1, .i32⟩ : BufTy).Contents (Elt F)),
    reshape main_v59 main_v60 (rfl : (.i32 : EltTy) = .i32) shapeCasts_S1_S_,
    TRef.unary ((.of main_v60) : TRef sig ⟨S_, .i32⟩) main_call10.v0 (broadcastInDim S8388608 ![] bcast_S_S8388608),
    TRef.ternary ((.of main_v58) : TRef sig ⟨S8388608, .i1⟩) main_call10.v0 ((.of main_v56) : TRef sig ⟨S8388608, .i32⟩) main_call10.v1 select ]

/-- Bin 8 overwritten by its count. -/
abbrev opsW8 : List (HloOp τ sig (Elt F)) :=
  [ nullary main_c_15 (constantI S_ 32 8#32),
    unary main_c_15 main_v62 (broadcastInDim S8388608 ![] bcast_S_S8388608 : (⟨S_, .i32⟩ : BufTy).Contents (Elt F) → (⟨S8388608, .i32⟩ : BufTy).Contents (Elt F)),
    binary main_v61 main_v62 main_v63 (cmpi .eq : (⟨S8388608, .i32⟩ : BufTy).Contents (Elt F) → (⟨S8388608, .i32⟩ : BufTy).Contents (Elt F) → (⟨S8388608, .i1⟩ : BufTy).Contents (Elt F)),
    unary main_v14 main_v64 ((extractStridedSlice S1 ![8] · slices_S10_S1_8) : (⟨S10, .i32⟩ : BufTy).Contents (Elt F) → (⟨S1, .i32⟩ : BufTy).Contents (Elt F)),
    reshape main_v64 main_v65 (rfl : (.i32 : EltTy) = .i32) shapeCasts_S1_S_,
    TRef.unary ((.of main_v65) : TRef sig ⟨S_, .i32⟩) main_call11.v0 (broadcastInDim S8388608 ![] bcast_S_S8388608),
    TRef.ternary ((.of main_v63) : TRef sig ⟨S8388608, .i1⟩) main_call11.v0 ((.of main_v61) : TRef sig ⟨S8388608, .i32⟩) main_call11.v1 select ]

/-- Bin 9 overwritten by its count. -/
abbrev opsW9 : List (HloOp τ sig (Elt F)) :=
  [ nullary main_c_16 (constantI S_ 32 9#32),
    unary main_c_16 main_v67 (broadcastInDim S8388608 ![] bcast_S_S8388608 : (⟨S_, .i32⟩ : BufTy).Contents (Elt F) → (⟨S8388608, .i32⟩ : BufTy).Contents (Elt F)),
    binary main_v66 main_v67 main_v68 (cmpi .eq : (⟨S8388608, .i32⟩ : BufTy).Contents (Elt F) → (⟨S8388608, .i32⟩ : BufTy).Contents (Elt F) → (⟨S8388608, .i1⟩ : BufTy).Contents (Elt F)),
    unary main_v14 main_v69 ((extractStridedSlice S1 ![9] · slices_S10_S1_9) : (⟨S10, .i32⟩ : BufTy).Contents (Elt F) → (⟨S1, .i32⟩ : BufTy).Contents (Elt F)),
    reshape main_v69 main_v70 (rfl : (.i32 : EltTy) = .i32) shapeCasts_S1_S_,
    TRef.unary ((.of main_v70) : TRef sig ⟨S_, .i32⟩) main_call12.v0 (broadcastInDim S8388608 ![] bcast_S_S8388608),
    TRef.ternary ((.of main_v68) : TRef sig ⟨S8388608, .i1⟩) main_call12.v0 ((.of main_v66) : TRef sig ⟨S8388608, .i32⟩) main_call12.v1 select ]

/-- The weights and the weighted mean. -/
abbrev opsE : List (HloOp τ sig (Elt F)) :=
  [ nullary main_c_17 (constantI S_ 32 2147483647#32),
    binary main_v14 main_c_17 main_v72 ((fun x v => Host.reduce IntOp.minsi x v reducesTo_S10_S_d0 h_S_) : (⟨S10, .i32⟩ : BufTy).Contents (Elt F) → (⟨S_, .i32⟩ : BufTy).Contents (Elt F) → (⟨S_, .i32⟩ : BufTy).Contents (Elt F)),
    nullary main_c_18 (constantI S_ 32 2147483648#32),
    binary main_v14 main_c_18 main_v73 ((fun x v => Host.reduce IntOp.maxsi x v reducesTo_S10_S_d0 h_S_) : (⟨S10, .i32⟩ : BufTy).Contents (Elt F) → (⟨S_, .i32⟩ : BufTy).Contents (Elt F) → (⟨S_, .i32⟩ : BufTy).Contents (Elt F)),
    unary main_v72 main_v74 (broadcastInDim S8388608 ![] bcast_S_S8388608 : (⟨S_, .i32⟩ : BufTy).Contents (Elt F) → (⟨S8388608, .i32⟩ : BufTy).Contents (Elt F)),
    binary main_v71 main_v74 main_v75 (subi : (⟨S8388608, .i32⟩ : BufTy).Contents (Elt F) → (⟨S8388608, .i32⟩ : BufTy).Contents (Elt F) → (⟨S8388608, .i32⟩ : BufTy).Contents (Elt F)),
    binary main_v73 main_v72 main_v76 (subi : (⟨S_, .i32⟩ : BufTy).Contents (Elt F) → (⟨S_, .i32⟩ : BufTy).Contents (Elt F) → (⟨S_, .i32⟩ : BufTy).Contents (Elt F)),
    unary main_v75 main_v77 (sitofp .f32 : (⟨S8388608, .i32⟩ : BufTy).Contents (Elt F) → (⟨S8388608, .f32⟩ : BufTy).Contents (Elt F)),
    unary main_v76 main_v78 (sitofp .f32 : (⟨S_, .i32⟩ : BufTy).Contents (Elt F) → (⟨S_, .f32⟩ : BufTy).Contents (Elt F)),
    unary main_v78 main_v79 (broadcastInDim S8388608 ![] bcast_S_S8388608 : (⟨S_, .f32⟩ : BufTy).Contents (Elt F) → (⟨S8388608, .f32⟩ : BufTy).Contents (Elt F)),
    binary main_v77 main_v79 main_v80 (Host.divf : (⟨S8388608, .f32⟩ : BufTy).Contents (Elt F) → (⟨S8388608, .f32⟩ : BufTy).Contents (Elt F) → (⟨S8388608, .f32⟩ : BufTy).Contents (Elt F)),
    nullary main_cst_19 (constant S_ .f32 0x3F800000#32),
    unary main_cst_19 main_v81 (broadcastInDim S8388608 ![] bcast_S_S8388608 : (⟨S_, .f32⟩ : BufTy).Contents (Elt F) → (⟨S8388608, .f32⟩ : BufTy).Contents (Elt F)),
    binary main_v81 main_v80 main_v82 (mulf : (⟨S8388608, .f32⟩ : BufTy).Contents (Elt F) → (⟨S8388608, .f32⟩ : BufTy).Contents (Elt F) → (⟨S8388608, .f32⟩ : BufTy).Contents (Elt F)),
    nullary main_cst_20 (constant S_ .f32 0x3F800000#32),
    unary main_cst_20 main_v83 (broadcastInDim S8388608 ![] bcast_S_S8388608 : (⟨S_, .f32⟩ : BufTy).Contents (Elt F) → (⟨S8388608, .f32⟩ : BufTy).Contents (Elt F)),
    binary main_v83 main_v82 main_v84 (subf : (⟨S8388608, .f32⟩ : BufTy).Contents (Elt F) → (⟨S8388608, .f32⟩ : BufTy).Contents (Elt F) → (⟨S8388608, .f32⟩ : BufTy).Contents (Elt F)),
    nullary main_cst_21 (constant S_ .f32 0x3DCCCCCD#32),
    unary main_cst_21 main_v85 (broadcastInDim S8388608 ![] bcast_S_S8388608 : (⟨S_, .f32⟩ : BufTy).Contents (Elt F) → (⟨S8388608, .f32⟩ : BufTy).Contents (Elt F)),
    binary main_v84 main_v85 main_v86 (maximumf : (⟨S8388608, .f32⟩ : BufTy).Contents (Elt F) → (⟨S8388608, .f32⟩ : BufTy).Contents (Elt F) → (⟨S8388608, .f32⟩ : BufTy).Contents (Elt F)),
    nullary main_cst_22 (constant S_ .f32 0x00000000#32),
    binary main_v86 main_cst_22 main_v87 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_23 (constant S_ .f32 0x4B000000#32),
    binary main_v87 main_cst_23 main_v88 (Host.divf : (⟨S_, .f32⟩ : BufTy).Contents (Elt F) → (⟨S_, .f32⟩ : BufTy).Contents (Elt F) → (⟨S_, .f32⟩ : BufTy).Contents (Elt F)),
    unary main_v88 main_v89 (broadcastInDim S8388608 ![] bcast_S_S8388608 : (⟨S_, .f32⟩ : BufTy).Contents (Elt F) → (⟨S8388608, .f32⟩ : BufTy).Contents (Elt F)),
    binary main_v86 main_v89 main_v90 (Host.divf : (⟨S8388608, .f32⟩ : BufTy).Contents (Elt F) → (⟨S8388608, .f32⟩ : BufTy).Contents (Elt F) → (⟨S8388608, .f32⟩ : BufTy).Contents (Elt F)),
    nullary main_cst_24 (constant S_ .f32 0x3F800000#32),
    unary main_cst_24 main_v91 (broadcastInDim S8388608 ![] bcast_S_S8388608 : (⟨S_, .f32⟩ : BufTy).Contents (Elt F) → (⟨S8388608, .f32⟩ : BufTy).Contents (Elt F)),
    binary main_v91 main_v90 main_v92 (mulf : (⟨S8388608, .f32⟩ : BufTy).Contents (Elt F) → (⟨S8388608, .f32⟩ : BufTy).Contents (Elt F) → (⟨S8388608, .f32⟩ : BufTy).Contents (Elt F)) ]

/-- The rest of that. -/
abbrev opsE' : List (HloOp τ sig (Elt F)) :=
  [ binary main_arg1 main_arg0 main_v93 (subf : (⟨S8388608, .f32⟩ : BufTy).Contents (Elt F) → (⟨S8388608, .f32⟩ : BufTy).Contents (Elt F) → (⟨S8388608, .f32⟩ : BufTy).Contents (Elt F)),
    binary main_v93 main_v93 main_v94 (mulf : (⟨S8388608, .f32⟩ : BufTy).Contents (Elt F) → (⟨S8388608, .f32⟩ : BufTy).Contents (Elt F) → (⟨S8388608, .f32⟩ : BufTy).Contents (Elt F)),
    binary main_v92 main_v94 main_v95 (mulf : (⟨S8388608, .f32⟩ : BufTy).Contents (Elt F) → (⟨S8388608, .f32⟩ : BufTy).Contents (Elt F) → (⟨S8388608, .f32⟩ : BufTy).Contents (Elt F)),
    nullary main_cst_25 (constant S_ .f32 0x00000000#32),
    binary main_v95 main_cst_25 main_v96 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_26 (constant S_ .f32 0x4B000000#32),
    binary main_v96 main_cst_26 main_v97 (Host.divf : (⟨S_, .f32⟩ : BufTy).Contents (Elt F) → (⟨S_, .f32⟩ : BufTy).Contents (Elt F) → (⟨S_, .f32⟩ : BufTy).Contents (Elt F)) ]

theorem part0_eq (c : Dev nD) : main_part0 (F := F) c = seq (opsR ++ (opsH ++ (opsA ++ (opsW0 ++ (opsW1 ++ (opsW2 ++ (opsW3 ++ (opsW4)))))))) := by
  unfold main_part0 fn_linspace.body fn_clip.body fn_argmin.body fn_where.body
  simp only [seq, List.cons_append, List.nil_append, bind_assoc, pure_bind, bind_pure_unit]

theorem part1_eq (c : Dev nD) : main_part1 (F := F) c = seq (opsW4' ++ (opsW5 ++ (opsW6 ++ (opsW7 ++ (opsW8 ++ (opsW9 ++ (opsE))))))) := by
  unfold main_part1 fn_where.body
  simp only [seq, List.cons_append, List.nil_append, bind_assoc, pure_bind, bind_pure_unit]

theorem part2_eq (c : Dev nD) : main_part2 (F := F) c = seq (opsE') := by
  unfold main_part2
  simp only [seq, List.cons_append, List.nil_append, bind_assoc, pure_bind, bind_pure_unit]

/-- The whole line. -/
abbrev ops : List (HloOp τ sig (Elt F)) := (opsR ++ (opsH ++ (opsA ++ (opsW0 ++ (opsW1 ++ (opsW2 ++ (opsW3 ++ (opsW4)))))))) ++ ((opsW4' ++ (opsW5 ++ (opsW6 ++ (opsW7 ++ (opsW8 ++ (opsW9 ++ (opsE))))))) ++ opsE')

theorem main_eq (c : Dev nD) : main (F := F) c = seq ops := by
  unfold ops
  rw [seq_append _ (_ ++ opsE'), seq_append _ opsE', ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsR_sub : (opsR : List (HloOp τ sig (Elt F))).Forall fun op => op.bufs ⊆ tcRefs τ sig :=
  ⟨nullary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub ..⟩
theorem opsH_sub : (opsH : List (HloOp τ sig (Elt F))).Forall fun op => op.bufs ⊆ tcRefs τ sig :=
  ⟨nullary_bufs_sub .., unary_bufs_sub .., binary_bufs_sub .., unary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem opsA_sub : (opsA : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub ..⟩
theorem opsW0_sub : (opsW0 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW1_sub : (opsW1 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW2_sub : (opsW2 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW3_sub : (opsW3 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW4_sub : (opsW4 : List (HloOp τ sig (Elt F))).Forall fun op => op.bufs ⊆ tcRefs τ sig :=
  ⟨nullary_bufs_sub .., unary_bufs_sub .., binary_bufs_sub .., unary_bufs_sub .., reshape_bufs_sub ..⟩
theorem opsW4'_sub : (opsW4' : List (HloOp τ sig (Elt F))).Forall fun op => op.bufs ⊆ tcRefs τ sig :=
  ⟨unary_bufs_sub .., ternary_bufs_sub ..⟩
theorem opsW5_sub : (opsW5 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW6_sub : (opsW6 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW7_sub : (opsW7 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW8_sub : (opsW8 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsW9_sub : (opsW9 : List (HloOp τ sig (Elt F))).Forall fun op => op.bufs ⊆ tcRefs τ sig :=
  ⟨nullary_bufs_sub .., unary_bufs_sub .., binary_bufs_sub .., unary_bufs_sub .., reshape_bufs_sub .., unary_bufs_sub .., ternary_bufs_sub ..⟩
theorem opsE_sub : (opsE : List (HloOp τ sig (Elt F))).Forall fun op => op.bufs ⊆ tcRefs τ sig :=
  ⟨nullary_bufs_sub .., binary_bufs_sub .., nullary_bufs_sub .., binary_bufs_sub .., unary_bufs_sub .., binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., binary_bufs_sub .., nullary_bufs_sub .., unary_bufs_sub .., binary_bufs_sub ..⟩
theorem opsE'_sub : (opsE' : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_append.mpr ⟨List.forall_append.mpr ⟨opsR_sub, List.forall_append.mpr ⟨opsH_sub, List.forall_append.mpr ⟨opsA_sub, List.forall_append.mpr ⟨opsW0_sub, List.forall_append.mpr ⟨opsW1_sub, List.forall_append.mpr ⟨opsW2_sub, List.forall_append.mpr ⟨opsW3_sub, opsW4_sub⟩⟩⟩⟩⟩⟩⟩, List.forall_append.mpr ⟨List.forall_append.mpr ⟨opsW4'_sub, List.forall_append.mpr ⟨opsW5_sub, List.forall_append.mpr ⟨opsW6_sub, List.forall_append.mpr ⟨opsW7_sub, List.forall_append.mpr ⟨opsW8_sub, List.forall_append.mpr ⟨opsW9_sub, opsE_sub⟩⟩⟩⟩⟩⟩, opsE'_sub⟩⟩

/-- What @main leaves in a buffer, from the contents `V` it starts with. -/
abbrev final (V : Valuation τ sig (Elt F)) : Valuation τ sig (Elt F) := after ops V

/-- @main run from any memory whose counters are zero: every buffer ends at the operations' results. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final (fun b => m (c, b)) (Proc.devRef .tc b) :=
  run_seq scopedRefs_eq scopedSems_eq defs main (fun _ => ops) main_eq (fun _ => ops_sub) m ρ

end Cert.Proof.R
-- ==== Proof.RKeep.lean ====
module

public import proofs.«01_k».proof.Proof.RRun
public import Idealize.ShloMosaic.Lib.Quiescent

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- Two stretches of a line, one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-! ## What each stage leaves alone -/

theorem opsR_arg0 (V : Valuation τ sig (Elt F)) : after opsR V (main_arg0 : DevRef τ sig) = V (main_arg0 : DevRef τ sig) := by
  after_results
theorem opsR_arg1 (V : Valuation τ sig (Elt F)) : after opsR V (main_arg1 : DevRef τ sig) = V (main_arg1 : DevRef τ sig) := by
  after_results
theorem opsH_arg0 (V : Valuation τ sig (Elt F)) : after opsH V (main_arg0 : DevRef τ sig) = V (main_arg0 : DevRef τ sig) := by
  after_results
theorem opsH_arg1 (V : Valuation τ sig (Elt F)) : after opsH V (main_arg1 : DevRef τ sig) = V (main_arg1 : DevRef τ sig) := by
  after_results
theorem opsH_v1 (V : Valuation τ sig (Elt F)) : after opsH V (main_v1 : DevRef τ sig) = V (main_v1 : DevRef τ sig) := by
  after_results
theorem opsA_arg0 (V : Valuation τ sig (Elt F)) : after opsA V (main_arg0 : DevRef τ sig) = V (main_arg0 : DevRef τ sig) := by
  after_results
theorem opsA_arg1 (V : Valuation τ sig (Elt F)) : after opsA V (main_arg1 : DevRef τ sig) = V (main_arg1 : DevRef τ sig) := by
  after_results
theorem opsA_v14 (V : Valuation τ sig (Elt F)) : after opsA V (main_v14 : DevRef τ sig) = V (main_v14 : DevRef τ sig) := by
  after_results
theorem opsW0_arg0 (V : Valuation τ sig (Elt F)) : after opsW0 V (main_arg0 : DevRef τ sig) = V (main_arg0 : DevRef τ sig) := by
  after_results
theorem opsW0_arg1 (V : Valuation τ sig (Elt F)) : after opsW0 V (main_arg1 : DevRef τ sig) = V (main_arg1 : DevRef τ sig) := by
  after_results
theorem opsW0_v14 (V : Valuation τ sig (Elt F)) : after opsW0 V (main_v14 : DevRef τ sig) = V (main_v14 : DevRef τ sig) := by
  after_results
theorem opsW1_arg0 (V : Valuation τ sig (Elt F)) : after opsW1 V (main_arg0 : DevRef τ sig) = V (main_arg0 : DevRef τ sig) := by
  after_results
theorem opsW1_arg1 (V : Valuation τ sig (Elt F)) : after opsW1 V (main_arg1 : DevRef τ sig) = V (main_arg1 : DevRef τ sig) := by
  after_results
theorem opsW1_v14 (V : Valuation τ sig (Elt F)) : after opsW1 V (main_v14 : DevRef τ sig) = V (main_v14 : DevRef τ sig) := by
  after_results
theorem opsW2_arg0 (V : Valuation τ sig (Elt F)) : after opsW2 V (main_arg0 : DevRef τ sig) = V (main_arg0 : DevRef τ sig) := by
  after_results
theorem opsW2_arg1 (V : Valuation τ sig (Elt F)) : after opsW2 V (main_arg1 : DevRef τ sig) = V (main_arg1 : DevRef τ sig) := by
  after_results
theorem opsW2_v14 (V : Valuation τ sig (Elt F)) : after opsW2 V (main_v14 : DevRef τ sig) = V (main_v14 : DevRef τ sig) := by
  after_results
theorem opsW3_arg0 (V : Valuation τ sig (Elt F)) : after opsW3 V (main_arg0 : DevRef τ sig) = V (main_arg0 : DevRef τ sig) := by
  after_results
theorem opsW3_arg1 (V : Valuation τ sig (Elt F)) : after opsW3 V (main_arg1 : DevRef τ sig) = V (main_arg1 : DevRef τ sig) := by
  after_results
theorem opsW3_v14 (V : Valuation τ sig (Elt F)) : after opsW3 V (main_v14 : DevRef τ sig) = V (main_v14 : DevRef τ sig) := by
  after_results
theorem opsW4_arg0 (V : Valuation τ sig (Elt F)) : after opsW4 V (main_arg0 : DevRef τ sig) = V (main_arg0 : DevRef τ sig) := by
  after_results
theorem opsW4_arg1 (V : Valuation τ sig (Elt F)) : after opsW4 V (main_arg1 : DevRef τ sig) = V (main_arg1 : DevRef τ sig) := by
  after_results
theorem opsW4_v14 (V : Valuation τ sig (Elt F)) : after opsW4 V (main_v14 : DevRef τ sig) = V (main_v14 : DevRef τ sig) := by
  after_results
theorem opsW4'_arg0 (V : Valuation τ sig (Elt F)) : after opsW4' V (main_arg0 : DevRef τ sig) = V (main_arg0 : DevRef τ sig) := by
  after_results
theorem opsW4'_arg1 (V : Valuation τ sig (Elt F)) : after opsW4' V (main_arg1 : DevRef τ sig) = V (main_arg1 : DevRef τ sig) := by
  after_results
theorem opsW4'_v14 (V : Valuation τ sig (Elt F)) : after opsW4' V (main_v14 : DevRef τ sig) = V (main_v14 : DevRef τ sig) := by
  after_results
theorem opsW5_arg0 (V : Valuation τ sig (Elt F)) : after opsW5 V (main_arg0 : DevRef τ sig) = V (main_arg0 : DevRef τ sig) := by
  after_results
theorem opsW5_arg1 (V : Valuation τ sig (Elt F)) : after opsW5 V (main_arg1 : DevRef τ sig) = V (main_arg1 : DevRef τ sig) := by
  after_results
theorem opsW5_v14 (V : Valuation τ sig (Elt F)) : after opsW5 V (main_v14 : DevRef τ sig) = V (main_v14 : DevRef τ sig) := by
  after_results
theorem opsW6_arg0 (V : Valuation τ sig (Elt F)) : after opsW6 V (main_arg0 : DevRef τ sig) = V (main_arg0 : DevRef τ sig) := by
  after_results
theorem opsW6_arg1 (V : Valuation τ sig (Elt F)) : after opsW6 V (main_arg1 : DevRef τ sig) = V (main_arg1 : DevRef τ sig) := by
  after_results
theorem opsW6_v14 (V : Valuation τ sig (Elt F)) : after opsW6 V (main_v14 : DevRef τ sig) = V (main_v14 : DevRef τ sig) := by
  after_results
theorem opsW7_arg0 (V : Valuation τ sig (Elt F)) : after opsW7 V (main_arg0 : DevRef τ sig) = V (main_arg0 : DevRef τ sig) := by
  after_results
theorem opsW7_arg1 (V : Valuation τ sig (Elt F)) : after opsW7 V (main_arg1 : DevRef τ sig) = V (main_arg1 : DevRef τ sig) := by
  after_results
theorem opsW7_v14 (V : Valuation τ sig (Elt F)) : after opsW7 V (main_v14 : DevRef τ sig) = V (main_v14 : DevRef τ sig) := by
  after_results
theorem opsW8_arg0 (V : Valuation τ sig (Elt F)) : after opsW8 V (main_arg0 : DevRef τ sig) = V (main_arg0 : DevRef τ sig) := by
  after_results
theorem opsW8_arg1 (V : Valuation τ sig (Elt F)) : after opsW8 V (main_arg1 : DevRef τ sig) = V (main_arg1 : DevRef τ sig) := by
  after_results
theorem opsW8_v14 (V : Valuation τ sig (Elt F)) : after opsW8 V (main_v14 : DevRef τ sig) = V (main_v14 : DevRef τ sig) := by
  after_results
theorem opsW9_arg0 (V : Valuation τ sig (Elt F)) : after opsW9 V (main_arg0 : DevRef τ sig) = V (main_arg0 : DevRef τ sig) := by
  after_results
theorem opsW9_arg1 (V : Valuation τ sig (Elt F)) : after opsW9 V (main_arg1 : DevRef τ sig) = V (main_arg1 : DevRef τ sig) := by
  after_results
theorem opsW9_v14 (V : Valuation τ sig (Elt F)) : after opsW9 V (main_v14 : DevRef τ sig) = V (main_v14 : DevRef τ sig) := by
  after_results
theorem opsE_arg0 (V : Valuation τ sig (Elt F)) : after opsE V (main_arg0 : DevRef τ sig) = V (main_arg0 : DevRef τ sig) := by
  after_results
theorem opsE_arg1 (V : Valuation τ sig (Elt F)) : after opsE V (main_arg1 : DevRef τ sig) = V (main_arg1 : DevRef τ sig) := by
  after_results
theorem opsE'_arg0 (V : Valuation τ sig (Elt F)) : after opsE' V (main_arg0 : DevRef τ sig) = V (main_arg0 : DevRef τ sig) := by
  after_results
theorem opsE'_arg1 (V : Valuation τ sig (Elt F)) : after opsE' V (main_arg1 : DevRef τ sig) = V (main_arg1 : DevRef τ sig) := by
  after_results

theorem final_arg0 (V : Valuation τ sig (Elt F)) : final V (main_arg0 : DevRef τ sig) = V (main_arg0 : DevRef τ sig) := by
  simp only [final, ops, after_two]
  rw [opsE'_arg0, opsE_arg0, opsW9_arg0, opsW8_arg0, opsW7_arg0, opsW6_arg0, opsW5_arg0, opsW4'_arg0, opsW4_arg0, opsW3_arg0, opsW2_arg0, opsW1_arg0, opsW0_arg0, opsA_arg0, opsH_arg0, opsR_arg0]

theorem final_arg1 (V : Valuation τ sig (Elt F)) : final V (main_arg1 : DevRef τ sig) = V (main_arg1 : DevRef τ sig) := by
  simp only [final, ops, after_two]
  rw [opsE'_arg1, opsE_arg1, opsW9_arg1, opsW8_arg1, opsW7_arg1, opsW6_arg1, opsW5_arg1, opsW4'_arg1, opsW4_arg1, opsW3_arg1, opsW2_arg1, opsW1_arg1, opsW0_arg1, opsA_arg1, opsH_arg1, opsR_arg1]

/-- The line's counters all end at zero and its arguments are as they were. -/
theorem frame : Cert.quiescent_ReferenceIdeal := by
  intro m ρ _
  exact (θ_run Cert.ReferenceIdeal.defs _ _).mono (fun r h =>
      ⟨fun c => ⟨(h c main_arg0).trans (final_arg0 _), (h c main_arg1).trans (final_arg1 _)⟩,
        Idealize.ShloMosaic.sem_eq_zero_of_no_sems (by decide) r.2⟩)
    (run_all (F := Ideal) m ρ)

end Cert.Proof.R
-- ==== Proof.Pres.lean ====
module

public import proofs.«01_k».proof.Defs

@[expose] public section

noncomputable section

namespace Cert.Proof

open Idealize.ShloMosaic

/-- The two named constants: each printed word reads back, at the bits, as the value it stands for. -/
theorem preserves : Cert.preserves_Kernel_KernelIdeal :=
  ⟨IdealRules.named_const.statement Cert.KernelIdeal.κ "edge" .f32 0x3F0CCCCD#32 ((11 / 20 : ℝ) : EReal) rfl,
    IdealRules.named_const.statement Cert.KernelIdeal.κ "w_lo" .f32 0x3F2AAAAB#32 ((2 / 3 : ℝ) : EReal) rfl⟩

end Cert.Proof
-- ==== Proof.RConst.lean ====
module

public import proofs.«01_k».proof.ReferenceIdeal
public import Idealize.ShloMosaic.PureOps.Ideal.Laws

@[expose] public section

noncomputable section

namespace Cert.Proof.R

open Idealize.ShloMosaic

/-! ## The words of the constants, as real numbers -/

theorem bits_zero : Ideal.ofBits .f32 0x00000000#32 = ((0 : ℝ) : EReal) := by simp [Ideal.ofBits, Ideal.ieee]
theorem bits_one : Ideal.ofBits .f32 0x3F800000#32 = ((1 : ℝ) : EReal) := by
  simp [Ideal.ofBits, Ideal.ieee, -EReal.coe_mul]; norm_num
theorem bits_ten : Ideal.ofBits .f32 0x41200000#32 = ((10 : ℝ) : EReal) := by
  simp [Ideal.ofBits, Ideal.ieee, -EReal.coe_mul]; norm_num
theorem bits_size : Ideal.ofBits .f32 0x4B000000#32 = ((8388608 : ℝ) : EReal) := by
  simp [Ideal.ofBits, Ideal.ieee, -EReal.coe_mul]
theorem bits_top : Ideal.ofBits .f32 0x7F800000#32 = ⊤ := by simp [Ideal.ofBits, Ideal.ieee]
/-- The floor under the weights, a little over a tenth. -/
theorem bits_floor : Ideal.ofBits .f32 0x3DCCCCCD#32 = ((13421773 / 134217728 : ℝ) : EReal) := by
  simp [Ideal.ofBits, Ideal.ieee, -EReal.coe_mul]; norm_num

/-- The larger of two real numbers is the same among the extended ones. -/
theorem coe_larger (a b : ℝ) : ((max a b : ℝ) : EReal) = max (a : EReal) (b : EReal) := EReal.coe_strictMono.monotone.map_max

/-- The bin of each of the twenty targets. -/
def bin : Fin 20 → ℕ := ![0, 0, 0, 0, 1, 1, 1, 2, 2, 2, 3, 3, 4, 4, 5, 5, 6, 7, 8, 9]

/-- A target times ten, cut to an integer, is its bin. -/
theorem target_bin (i : Fin 20) :
    Ideal.fptosi 32 (((10 : ℝ) : EReal) * Ideal.ofBits .f32 (Cert.ReferenceIdeal.lit0 i)) = BitVec.ofNat 32 (bin i) := by
  fin_cases i <;>
    (simp [Ideal.ofBits, Ideal.ieee, -EReal.coe_mul, Cert.ReferenceIdeal.lit0, bin, Ideal.fptosi]
     rw [← EReal.coe_mul, Ideal.toIntClamped_coe]
     norm_num)

end Cert.Proof.R
-- ==== Proof.KIVal1.lean ====
module

public import proofs.«01_k».proof.Proof.KITile
public import proofs.«01_k».proof.Proof.RConst
public import Idealize.ShloMosaic.PureOps.Ideal.Laws
public import Idealize.ShloMosaic.Lib.Pointwise.Index

@[expose] public section

noncomputable section

namespace Cert.Proof.KI

open Cert.KernelIdeal Cert.KernelIdeal.Gen
open Idealize.ShloMosaic

/-! ## The kernel's sums at exact arithmetic -/

/-- The weight of a target. -/
def wgt (y : EReal) : EReal := if y ≤ ((11 / 20 : ℝ) : EReal) then ((2 / 3 : ℝ) : EReal) else ((1 : ℝ) : EReal)
/-- The weighted square of an error. -/
def err (x y : EReal) : EReal := wgt y * ((y - x) * (y - x))

theorem edge_eq : (Named.named (F := Ideal) (φ := .f32) κ "edge" 0x3F0CCCCD#32 : EReal) = ((11 / 20 : ℝ) : EReal) := IdealRules.named_const.ideal_named_scalar _ _ _ _ rfl
theorem w_lo_eq : (Named.named (F := Ideal) (φ := .f32) κ "w_lo" 0x3F2AAAAB#32 : EReal) = ((2 / 3 : ℝ) : EReal) := IdealRules.named_const.ideal_named_scalar _ _ _ _ rfl
theorem one_eq : (Scalar.ofBits (F := Ideal) .f32 0x3F800000#32 : EReal) = ((1 : ℝ) : EReal) := R.bits_one

/-- The selection a weight is made of. -/
theorem wgt_select (y : EReal) :
    Scalar.select (FloatOps.cmpf (F := Ideal) (φ := .f32) .ole y (Named.named (F := Ideal) (φ := .f32) κ "edge" 0x3F0CCCCD#32)) (Named.named (F := Ideal) (φ := .f32) κ "w_lo" 0x3F2AAAAB#32) (Scalar.ofBits (F := Ideal) .f32 0x3F800000#32) = wgt y := by
  rw [edge_eq, w_lo_eq, one_eq, Ideal.cmpf_def, Ideal.cmp, wgt]
  by_cases h : y ≤ ((11 / 20 : ℝ) : EReal)
  · rw [if_pos h]
    simp [h, Scalar.select]
  · rw [if_neg h]
    simp [h, Scalar.select]

/-- A sum over consecutive blocks. -/
theorem sum_blocks (f : ℕ → EReal) (m n : ℕ) : ∑ u ∈ Finset.range m, ∑ x ∈ Finset.range n, f (n * u + x) = ∑ i ∈ Finset.range (n * m), f i := by
  induction m with
  | zero => simp
  | succ m ih => rw [Finset.sum_range_succ, ih, Nat.mul_succ, Finset.sum_range_add]

/-- A sum over a shape by the rank of each entry in row-major order. -/
theorem sum_rowMajor (s : Shape) (f : ℕ → EReal) (n : ℕ) (hn : s.numel = n) : ∑ i : s.Idx, f (s.rowMajor i).val = ∑ k ∈ Finset.range n, f k := by
  subst hn
  rw [← Fin.sum_univ_eq_sum_range]
  exact Equiv.sum_comp s.rowMajor fun k => f k.val

theorem sum_lanes (f : ℕ → EReal) : ∑ x : S16.Idx, f (x 0).val = ∑ k ∈ Finset.range 16, f k := by
  rw [← sum_rowMajor S16 f 16 (by rfl)]
  exact Finset.sum_congr rfl fun x _ => by rw [Shape.rowMajor_val_one]

/-- Casting to another shape keeps the sum. -/
theorem sum_shapeCast {s t : Shape} (x : s.Idx → EReal) (h : s.ShapeCasts t) : ∑ j : t.Idx, shapeCast t x h j = ∑ i : s.Idx, x i :=
  Equiv.sum_comp (Shape.reshapeEquiv h) x

/-! ### The sixteen registers of a tile -/

theorem pay3_apply (v : S16.Idx → EReal) (x : S16.Idx) : k0_pay3 (F := Ideal) v x = v x := by
  unfold k0_pay3
  exact congrArg v (Shape.reshapeEquiv_self _ x)

theorem pay4_apply (v : S16.Idx → EReal) (x : S16.Idx) : k0_pay4 (F := Ideal) v x = wgt (v x) := by
  rw [← wgt_select, ← pay3_apply v x]
  rfl

theorem pay5_apply (a v : S16.Idx → EReal) (x : S16.Idx) : k0_pay5 (F := Ideal) a v x = a x + wgt (v x) := by
  rw [← pay4_apply v x]
  rfl

theorem pay6_apply (b p g : S16.Idx → EReal) (x : S16.Idx) : k0_pay6 (F := Ideal) b p g x = b x + err (p x) (g x) := by
  unfold err
  rw [← pay4_apply g x, ← pay3_apply g x, ← pay3_apply p x]
  rfl

theorem pay131_apply (x : S16.Idx) : k0_pay131 (F := Ideal) x = (0 : EReal) := R.bits_zero

/-- Eight registers' sum, as the kernel pairs them. -/
def eight (a0 a1 a2 a3 a4 a5 a6 a7 : S16.Idx → EReal) : EReal := ∑ x : S16.Idx, (((a0 x + a1 x) + (a2 x + a3 x)) + ((a4 x + a5 x) + (a6 x + a7 x)))

/-- The sum of the registers of weights. -/
def totW : Acc Ideal → EReal := fun (a0, a1, a2, a3, a4, a5, a6, a7, b0, b1, b2, b3, b4, b5, b6, b7) => eight a0 a1 a2 a3 a4 a5 a6 a7
/-- The sum of the registers of weighted squares. -/
def totE : Acc Ideal → EReal := fun (a0, a1, a2, a3, a4, a5, a6, a7, b0, b1, b2, b3, b4, b5, b6, b7) => eight b0 b1 b2 b3 b4 b5 b6 b7

/-- Entry `n` of a chunk. -/
def here (f : S8192.Idx → EReal) (n : ℕ) : EReal := f (ix1 ⟨n % 8192, Nat.mod_lt _ (by norm_num)⟩)

theorem rd_apply (f : S8192.Idx → EReal) (o : ℕ) (x : S16.Idx) : rd (F := Ideal) f o x = here f (o + (x 0).val) := by
  unfold rd here
  refine congrArg f (funext fun a => ?_)
  match a with
  | 0 => rfl

/-- Eight registers, each taking in sixteen entries, take in a hundred and twenty-eight. -/
theorem eight_add (a0 a1 a2 a3 a4 a5 a6 a7 : S16.Idx → EReal) (f : ℕ → EReal) (k : ℕ) :
    eight (fun x => a0 x + f (128 * k + 0 + (x 0).val)) (fun x => a1 x + f (128 * k + 16 + (x 0).val)) (fun x => a2 x + f (128 * k + 32 + (x 0).val))
      (fun x => a3 x + f (128 * k + 48 + (x 0).val)) (fun x => a4 x + f (128 * k + 64 + (x 0).val)) (fun x => a5 x + f (128 * k + 80 + (x 0).val))
      (fun x => a6 x + f (128 * k + 96 + (x 0).val)) (fun x => a7 x + f (128 * k + 112 + (x 0).val))
      = eight a0 a1 a2 a3 a4 a5 a6 a7 + ∑ i ∈ Finset.range 128, f (128 * k + i) := by
  have hb : ∑ i ∈ Finset.range 128, f (128 * k + i) = ∑ u ∈ Finset.range 8, ∑ x ∈ Finset.range 16, f (128 * k + (16 * u + x)) :=
    (sum_blocks (fun i => f (128 * k + i)) 8 16).symm
  have hl : ∀ o : ℕ, ∑ x : S16.Idx, f (128 * k + o + (x 0).val) = ∑ x ∈ Finset.range 16, f (128 * k + (o + x)) := fun o =>
    (sum_lanes fun x => f (128 * k + o + x)).trans (Finset.sum_congr rfl fun x _ => by rw [Nat.add_assoc])
  rw [hb, Finset.sum_range_succ, Finset.sum_range_succ, Finset.sum_range_succ, Finset.sum_range_succ, Finset.sum_range_succ, Finset.sum_range_succ, Finset.sum_range_succ,
    Finset.sum_range_one]
  unfold eight
  simp only [Finset.sum_add_distrib, hl]
  norm_num only [Nat.mul_zero, Nat.reduceMul]
  abel

theorem totW_step (p g : S8192.Idx → EReal) (k : ℕ) (acc : Acc Ideal) :
    totW (stepAcc p g k acc) = totW acc + ∑ i ∈ Finset.range 128, wgt (here g (128 * k + i)) := by
  obtain ⟨a0, a1, a2, a3, a4, a5, a6, a7, b0, b1, b2, b3, b4, b5, b6, b7⟩ := acc
  refine Eq.trans ?_ (eight_add a0 a1 a2 a3 a4 a5 a6 a7 (fun n => wgt (here g n)) k)
  unfold stepAcc totW
  simp only [eight, pay5_apply, rd_apply]

theorem totE_step (p g : S8192.Idx → EReal) (k : ℕ) (acc : Acc Ideal) :
    totE (stepAcc p g k acc) = totE acc + ∑ i ∈ Finset.range 128, err (here p (128 * k + i)) (here g (128 * k + i)) := by
  obtain ⟨a0, a1, a2, a3, a4, a5, a6, a7, b0, b1, b2, b3, b4, b5, b6, b7⟩ := acc
  refine Eq.trans ?_ (eight_add b0 b1 b2 b3 b4 b5 b6 b7 (fun n => err (here p n) (here g n)) k)
  unfold stepAcc totE
  simp only [eight, pay6_apply, rd_apply]

/-- Anything a trip adds a hundred and twenty-eight entries to. -/
theorem iter_total (T : Acc Ideal → EReal) (p g : S8192.Idx → EReal) (f : ℕ → EReal)
    (hT : ∀ k acc, T (stepAcc p g k acc) = T acc + ∑ i ∈ Finset.range 128, f (128 * k + i)) (n : ℕ) (acc : Acc Ideal) :
    T (iterAcc p g n acc) = T acc + ∑ i ∈ Finset.range (128 * n), f i := by
  induction n with
  | zero => simp [iterAcc]
  | succ n ih => rw [iterAcc, hT, ih, Nat.mul_succ, Finset.sum_range_add, add_assoc]

/-- Entry `n` of an array. -/
def entry (P : S8388608.Idx → EReal) (n : ℕ) : EReal := P (ix1 ⟨n % 8388608, Nat.mod_lt _ (by norm_num)⟩)

theorem here_chunk (P : S8388608.Idx → EReal) (n i : ℕ) (hi : i < 8192) : here (chunk (F := Ideal) P n) i = entry P (n + i) := by
  unfold here chunk entry
  refine congrArg P (funext fun a => ?_)
  match a with
  | 0 => exact Fin.ext (by simp [ix1, Nat.mod_eq_of_lt hi])

theorem chunk_room (b c : ℕ) (h : b + 8192 * (c + 1) ≤ 8388608) : b + 8192 * c + 8192 ≤ 8388608 := by rwa [Nat.mul_succ, ← Nat.add_assoc] at h

/-- What the sixty-four trips over a chunk take in. -/
theorem chunk_sum (P G : S8388608.Idx → EReal) (h : EReal → EReal → EReal) (n : ℕ) :
    ∑ i ∈ Finset.range (128 * 64), h (here (chunk (F := Ideal) P n) i) (here (chunk (F := Ideal) G n) i) = ∑ i ∈ Finset.range 8192, h (entry P (n + i)) (entry G (n + i)) := by
  rw [show 128 * 64 = 8192 by norm_num]
  refine Finset.sum_congr rfl fun i hi => ?_
  rw [here_chunk P n i (Finset.mem_range.mp hi), here_chunk G n i (Finset.mem_range.mp hi)]

theorem tile_total (T : Acc Ideal → EReal) (P G : S8388608.Idx → EReal) (h : EReal → EReal → EReal) (h0 : T zeroAcc = 0)
    (hT : ∀ p g k acc, T (stepAcc p g k acc) = T acc + ∑ i ∈ Finset.range 128, h (here p (128 * k + i)) (here g (128 * k + i)))
    (b : ℕ) (c : ℕ) (hc : b + 8192 * c ≤ 8388608) :
    T (tileAcc P G b c) = ∑ i ∈ Finset.range (8192 * c), h (entry P (b + i)) (entry G (b + i)) := by
  induction c with
  | zero => simp [tileAcc, h0]
  | succ c ih =>
    have hcl : cl (b + 8192 * c) = b + 8192 * c := cl_of_le (chunk_room b c hc)
    have hs := iter_total T _ _ (fun n => h (here (chunk (F := Ideal) P (cl (b + 8192 * c))) n) (here (chunk (F := Ideal) G (cl (b + 8192 * c))) n))
      (hT (chunk (F := Ideal) P (cl (b + 8192 * c))) (chunk (F := Ideal) G (cl (b + 8192 * c)))) 64 (tileAcc P G b c)
    rw [chunk_sum, hcl, ih (Nat.le_trans (Nat.le_add_right _ _) (chunk_room b c hc))] at hs
    rw [tileAcc, hcl, hs, Nat.mul_succ 8192 c, Finset.sum_range_add]
    simp only [Nat.add_assoc]

theorem totW_zero : totW (zeroAcc (F := Ideal)) = 0 := by
  simp [totW, zeroAcc, eight, pay131_apply]

theorem totE_zero : totE (zeroAcc (F := Ideal)) = 0 := by
  simp [totE, zeroAcc, eight, pay131_apply]

/-! ### The thirty-two tiles -/

/-- The lanes of a row. -/
def laneEquiv : Fin 16 ≃ S1x16.Idx where
  toFun := lane
  invFun x := x 1
  left_inv x := rfl
  right_inv x := funext fun a => match a with
    | 0 => (Fin.ext (Nat.lt_one_iff.mp (x 0).isLt)).symm
    | 1 => rfl

theorem rowW_apply (acc : Acc Ideal) : ∑ x : Fin 16, rowW acc (lane x) = totW acc := by
  obtain ⟨a0, a1, a2, a3, a4, a5, a6, a7, b0, b1, b2, b3, b4, b5, b6, b7⟩ := acc
  refine Eq.trans ?_ (sum_shapeCast (k0_pay144 (F := Ideal) a0 a1 a2 a3 a4 a5 a6 a7) shapeCasts_S16_S1x16)
  exact Fintype.sum_equiv (laneEquiv) _ _ fun x => rfl

theorem rowE_apply (acc : Acc Ideal) : ∑ x : Fin 16, rowE acc (lane x) = totE acc := by
  obtain ⟨a0, a1, a2, a3, a4, a5, a6, a7, b0, b1, b2, b3, b4, b5, b6, b7⟩ := acc
  refine Eq.trans ?_ (sum_shapeCast (k0_pay144 (F := Ideal) b0 b1 b2 b3 b4 b5 b6 b7) shapeCasts_S16_S1x16)
  exact Fintype.sum_equiv (laneEquiv) _ _ fun x => rfl

/-- The tiles and lanes of a row of the partial sums. -/
def tileEquiv : Fin 32 × Fin 16 ≃ S32x1x16.Idx where
  toFun p := fun | 0 => p.1 | 1 => ⟨0, by decide⟩ | 2 => p.2
  invFun x := (x 0, x 2)
  left_inv p := rfl
  right_inv x := funext fun a => match a with
    | 0 => rfl
    | 1 => (Fin.ext (Nat.lt_one_iff.mp (x 1).isLt)).symm
    | 2 => rfl

/-- The tiles' share of a sum over an array. -/
theorem tiles_total (T : Acc Ideal → EReal) (P G : S8388608.Idx → EReal) (h : EReal → EReal → EReal) (h0 : T zeroAcc = 0)
    (hT : ∀ p g k acc, T (stepAcc p g k acc) = T acc + ∑ i ∈ Finset.range 128, h (here p (128 * k + i)) (here g (128 * k + i))) :
    ∑ w : Fin 32, T (tileAcc P G (65536 * w.val) 8) = ∑ i ∈ Finset.range 2097152, h (entry P i) (entry G i) := by
  rw [← sum_blocks (fun i => h (entry P i) (entry G i)) 32 65536, ← Fin.sum_univ_eq_sum_range]
  exact Finset.sum_congr rfl fun w _ => tile_total T P G h h0 hT _ 8 (by have := w.isLt; omega)

end Cert.Proof.KI
-- ==== Proof.KIVal2.lean ====
module

public import proofs.«01_k».proof.Proof.KIVal1
public import proofs.«01_k».proof.Proof.KIDat1
public import Idealize.ShloMosaic.Lib.Pipeline.ValueKit

@[expose] public section

noncomputable section

namespace Cert.Proof.KI

open Cert.KernelIdeal Cert.KernelIdeal.Gen
open Idealize.ShloMosaic
open Idealize.ShloMosaic.TcCoe

/-! ## The other kernel's sums at exact arithmetic -/

theorem tcpay2_apply (v : S8192x128.Idx → EReal) (x : S8192x128.Idx) : k1_pay2 (F := Ideal) v x = v x := by
  unfold k1_pay2
  exact congrArg v (Shape.reshapeEquiv_self _ x)

theorem tcpay3_apply (v : S8192x128.Idx → EReal) (x : S8192x128.Idx) : k1_pay3 (F := Ideal) v x = wgt (v x) := by
  rw [← wgt_select, ← tcpay2_apply v x]
  rfl

/-- Summing one axis away keeps the sum. -/
theorem sum_reduced {s t : Shape} {axes : List (Fin s.rank)} (src : s.Idx → EReal) (h : s.Reduces axes t) :
    ∑ j : t.Idx, multiReduction (F := Ideal) (φ := .f32) .add axes t src 0x00000000#32 h (.inl rfl) rfl j = ∑ i : s.Idx, src i := by
  refine Eq.trans ?_ (Finset.sum_fiberwise Finset.univ (fun i : s.Idx => h.drop i) src)
  rfl

theorem tcpay4_total (y : S8192x128.Idx → EReal) (a : S1x8x128.Idx → EReal) :
    ∑ x : S1x8x128.Idx, k1_pay4 (F := Ideal) y a x = ∑ x : S1x8x128.Idx, a x + ∑ i : S8192x128.Idx, wgt (y i) := by
  unfold k1_pay4
  refine (sum_shapeCast _ shapeCasts_S8x128_S1x8x128).trans ?_
  refine (Finset.sum_add_distrib (s := Finset.univ)).trans ?_
  refine congrArg₂ (· + ·) (sum_shapeCast a shapeCasts_S1x8x128_S8x128) ?_
  refine (sum_reduced _ reduces_S1024x8x128_S8x128).trans ?_
  refine (sum_shapeCast _ shapeCasts_S8192x128_S1024x8x128).trans ?_
  exact Finset.sum_congr rfl fun i _ => tcpay3_apply y i

theorem tcpay5_total (x y : S8192x128.Idx → EReal) (a : S1x8x128.Idx → EReal) :
    ∑ j : S1x8x128.Idx, k1_pay5 (F := Ideal) x y a j = ∑ j : S1x8x128.Idx, a j + ∑ i : S8192x128.Idx, err (x i) (y i) := by
  unfold k1_pay5
  refine (sum_shapeCast _ shapeCasts_S8x128_S1x8x128).trans ?_
  refine (Finset.sum_add_distrib (s := Finset.univ)).trans ?_
  refine congrArg₂ (· + ·) (sum_shapeCast a shapeCasts_S1x8x128_S8x128) ?_
  refine (sum_reduced _ reduces_S1024x8x128_S8x128).trans ?_
  refine (sum_shapeCast _ shapeCasts_S8192x128_S1024x8x128).trans ?_
  refine Finset.sum_congr rfl fun i _ => ?_
  unfold err
  rw [← tcpay3_apply y i, ← tcpay2_apply y i, ← tcpay2_apply x i]
  rfl

/-- The sum of a row of the accumulator. -/
def rowSum (a : S2x8x128.Idx → EReal) (r : Fin 2) : EReal := ∑ x : S1x8x128.Idx, accRow (F := Ideal) a r x

theorem rowIn_rowIx (r : Fin 2) (x : S1x8x128.Idx) : rowIn (rowIx r x) = x := funext fun a => match a with
  | 0 => (Fin.ext (Nat.lt_one_iff.mp (x 0).isLt)).symm
  | 1 => rfl
  | 2 => rfl

theorem rowSum_step0 (x y : S8192x128.Idx → EReal) (a : S2x8x128.Idx → EReal) :
    rowSum (tcStep (F := Ideal) x y a) 0 = rowSum a 0 + ∑ i : S8192x128.Idx, wgt (y i) := by
  unfold rowSum
  rw [← tcpay4_total]
  refine Finset.sum_congr rfl fun j _ => ?_
  rw [accRow, tcStep, rowIn_rowIx]
  exact if_pos rfl

theorem rowSum_step1 (x y : S8192x128.Idx → EReal) (a : S2x8x128.Idx → EReal) :
    rowSum (tcStep (F := Ideal) x y a) 1 = rowSum a 1 + ∑ i : S8192x128.Idx, err (x i) (y i) := by
  unfold rowSum
  rw [← tcpay5_total]
  refine Finset.sum_congr rfl fun j _ => ?_
  rw [accRow, tcStep, rowIn_rowIx]
  exact if_neg (by show ¬ (1 : ℕ) = 0; norm_num)

theorem rowSum_zero (r : Fin 2) : rowSum (k1_pay1 (F := Ideal)) r = 0 := by
  unfold rowSum
  refine Finset.sum_eq_zero fun x _ => ?_
  exact R.bits_zero

/-! ### The blocks -/

/-- The two arrays as the kernel's rows of a hundred and twenty-eight. -/
def rows (P : S8388608.Idx → EReal) : S65536x128.Idx → EReal := shapeCast S65536x128 P shapeCasts_S8388608_S65536x128

theorem rows_apply (P : S8388608.Idx → EReal) (j : S65536x128.Idx) : rows P j = entry P (128 * (j 0).val + (j 1).val) := by
  unfold rows shapeCast entry
  refine congrArg P (Shape.reshapeEquiv_eq_of_rowMajor _ ?_)
  have h0 : (j 0).val < 65536 := (j 0).isLt
  have h1 : (j 1).val < 128 := (j 1).isLt
  rw [Shape.rowMajor_val_one, Shape.rowMajor_val_two]
  show ((128 * (j 0).val + (j 1).val) % 8388608) = (j 0).val * 128 + (j 1).val
  rw [Nat.mod_eq_of_lt (by omega), Nat.mul_comm]

variable (V : Dev nD → Valuation τ sig (Elt Ideal)) (P G : S8388608.Idx → EReal) (c : Dev nD)

theorem index1 (t : Fin cfg1.N) : (cfg1.win 0).index t = ![2 + t.val, 0] := by revert t; decide +kernel
theorem index1' (t : Fin cfg1.N) : (cfg1.win 1).index t = ![2 + t.val, 0] := by revert t; decide +kernel

/-- A block of the rows. -/
theorem rows_block (P : S8388608.Idx → EReal) (n : ℕ) (i : S8192x128.Idx) (j : S65536x128.Idx) (h0 : (j 0).val = (2 + n) * 8192 + (i 0).val) (h1 : (j 1).val = 0 * 128 + (i 1).val) :
    rows P j = entry P (2097152 + 1048576 * n + (128 * (i 0).val + (i 1).val)) := by
  rw [rows_apply, h0, h1]
  congr 1
  omega

theorem blkP_apply (hV : V c (main_v1 : DevRef τ sig) = rows P) (t : Fin cfg1.N) (i : S8192x128.Idx) :
    blkP (F := Ideal) V c t i = entry P (2097152 + 1048576 * t.val + (128 * (i 0).val + (i 1).val)) := by
  unfold blkP
  rw [hV]
  refine rows_block P t.val i _ ?_ ?_
  · refine (Pipeline.Window.rect_emb_val (cfg1.win 0) t i 0).trans ?_
    rw [index1]; rfl
  · refine (Pipeline.Window.rect_emb_val (cfg1.win 0) t i 1).trans ?_
    rw [index1]; rfl

theorem blkG_apply (hV : V c (main_v2 : DevRef τ sig) = rows G) (t : Fin cfg1.N) (i : S8192x128.Idx) :
    blkG (F := Ideal) V c t i = entry G (2097152 + 1048576 * t.val + (128 * (i 0).val + (i 1).val)) := by
  unfold blkG
  rw [hV]
  refine rows_block G t.val i _ ?_ ?_
  · refine (Pipeline.Window.rect_emb_val (cfg1.win 1) t i 0).trans ?_
    rw [index1']; rfl
  · refine (Pipeline.Window.rect_emb_val (cfg1.win 1) t i 1).trans ?_
    rw [index1']; rfl

/-- A sum over a block by the place of each entry. -/
theorem sum_block (f : ℕ → EReal) : ∑ i : S8192x128.Idx, f (128 * (i 0).val + (i 1).val) = ∑ k ∈ Finset.range 1048576, f k := by
  rw [← sum_rowMajor S8192x128 f 1048576 (by simp [Shape.numel, Fin.prod_univ_two])]
  refine Finset.sum_congr rfl fun i _ => ?_
  rw [Shape.rowMajor_val_two]
  show _ = f ((i 0).val * 128 + (i 1).val)
  rw [Nat.mul_comm]

/-- Anything the points add a block of entries to. -/
theorem points_total (T : (S2x8x128.Idx → EReal) → EReal) (h : EReal → EReal → EReal) (hP : V c (main_v1 : DevRef τ sig) = rows P) (hG : V c (main_v2 : DevRef τ sig) = rows G)
    (h0 : T (k1_pay1 (F := Ideal)) = 0) (hT : ∀ x y a, T (tcStep (F := Ideal) x y a) = T a + ∑ i : S8192x128.Idx, h (x i) (y i)) (n : ℕ) (hn : n ≤ cfg1.N) :
    T (accAt (F := Ideal) V c n) = ∑ i ∈ Finset.range (1048576 * n), h (entry P (2097152 + i)) (entry G (2097152 + i)) := by
  induction n with
  | zero => simp [accAt, h0]
  | succ n ih =>
    have hb := sum_block fun k => h (entry P (2097152 + 1048576 * n + k)) (entry G (2097152 + 1048576 * n + k))
    have hs : ∑ i : S8192x128.Idx, h (blkP (F := Ideal) V c ⟨n, hn⟩ i) (blkG (F := Ideal) V c ⟨n, hn⟩ i)
        = ∑ k ∈ Finset.range 1048576, h (entry P (2097152 + 1048576 * n + k)) (entry G (2097152 + 1048576 * n + k)) := by
      rw [← hb]
      refine Finset.sum_congr rfl fun i _ => ?_
      rw [blkP_apply V P c hP, blkG_apply V G c hG]
    rw [accAt, dif_pos (show n < cfg1.N from hn), hT, ih (Nat.le_of_succ_le hn), hs, Nat.mul_succ 1048576 n, Finset.sum_range_add]
    simp only [Nat.add_assoc]

end Cert.Proof.KI
-- ==== Proof.KIVal3.lean ====
module

public import proofs.«01_k».proof.Proof.KIVal2
public import proofs.«01_k».proof.Proof.KIRun
public import Idealize.ShloMosaic.Lib.Claim

@[expose] public section

noncomputable section

namespace Cert.Proof.KI

open Cert.KernelIdeal Cert.KernelIdeal.Gen
open Idealize.ShloMosaic
open Idealize.ShloMosaic.TcCoe Idealize.ShloMosaic.Tactic
open Idealize.ShloMosaic.Pipeline (Dat Cfg Window)

/-! ## The kernel's value at exact arithmetic -/

theorem rowsOf_zero (acc : Acc Ideal) (x : Fin 16) : rowsOf acc (rowLane 0 x) = rowW acc (lane x) := if_pos rfl
theorem rowsOf_one (acc : Acc Ideal) (x : Fin 16) : rowsOf acc (rowLane 1 x) = rowE acc (lane x) := if_neg (by show ¬ (1 : ℕ) = 0; norm_num)

theorem partials_at (P G : S8388608.Idx → EReal) (i : S32x2x16.Idx) (w : Fin 32) (r : Fin 2) (x : Fin 16) (h0 : i 0 = w) (h1 : i 1 = r) (h2 : i 2 = x) :
    partials (F := Ideal) P G i = rowsOf (tileAcc P G (65536 * w.val) 8) (rowLane r x) := by
  subst h0 h1 h2
  rfl

theorem scRow_at (P G : S8388608.Idx → EReal) (w : Fin 32) (r : Fin 2) (x : Fin 16) :
    scRow (F := Ideal) (partials P G) r (tileEquiv (w, x)) = rowsOf (tileAcc P G (65536 * w.val) 8) (rowLane r x) :=
  partials_at P G _ w r x rfl rfl rfl

theorem scRow_partials0 (P G : S8388608.Idx → EReal) :
    ∑ x : S32x1x16.Idx, scRow (F := Ideal) (partials P G) 0 x = ∑ i ∈ Finset.range 2097152, wgt (entry G i) := by
  rw [← tiles_total totW P G (fun _ y => wgt y) totW_zero (fun p g k acc => totW_step p g k acc), ← Equiv.sum_comp tileEquiv, Fintype.sum_prod_type]
  refine Finset.sum_congr rfl fun w _ => ?_
  rw [← rowW_apply]
  exact Finset.sum_congr rfl fun x _ => (scRow_at P G w 0 x).trans (rowsOf_zero _ x)

theorem scRow_partials1 (P G : S8388608.Idx → EReal) :
    ∑ x : S32x1x16.Idx, scRow (F := Ideal) (partials P G) 1 x = ∑ i ∈ Finset.range 2097152, err (entry P i) (entry G i) := by
  rw [← tiles_total totE P G err totE_zero (fun p g k acc => totE_step p g k acc), ← Equiv.sum_comp tileEquiv, Fintype.sum_prod_type]
  refine Finset.sum_congr rfl fun w _ => ?_
  rw [← rowE_apply]
  exact Finset.sum_congr rfl fun x _ => (scRow_at P G w 1 x).trans (rowsOf_one _ x)

theorem one_axis (b : Fin S1.rank) : S1.size b = 1 := match b with
  | 0 => rfl

/-- The total of an array of the first kernel's partial sums. -/
theorem extract_sc (x : S32x1x16.Idx → EReal) :
    extractAt ![0, 0, 0] (shapeCast S1x1x1 (multiReduction (F := Ideal) (φ := .f32) .add [1, 2] S1 (shapeCast S1x32x16 (shapeCast S32x16 x shapeCasts_S32x1x16_S32x16) shapeCasts_S32x16_S1x32x16) 0x00000000#32 reduces_S1x32x16_S1 (.inl rfl) rfl) shapeCasts_S1_S1x1x1) inpos_S1x1x1_p0_0_0
      = ∑ i : S32x1x16.Idx, x i :=
  (Ideal.multiReduction_add_total _ 0x00000000#32 reduces_S1x32x16_S1 one_axis (.inl rfl) rfl _).trans ((sum_shapeCast _ shapeCasts_S32x16_S1x32x16).trans (sum_shapeCast x shapeCasts_S32x1x16_S32x16))

/-- The total of an array of the second kernel's partial sums. -/
theorem extract_tc (x : S1x8x128.Idx → EReal) :
    extractAt ![0, 0, 0] (shapeCast S1x1x1 (multiReduction (F := Ideal) (φ := .f32) .add [1, 2] S1 (shapeCast S1x8x128 (shapeCast S8x128 x shapeCasts_S1x8x128_S8x128) shapeCasts_S8x128_S1x8x128) 0x00000000#32 reduces_S1x8x128_S1 (.inl rfl) rfl) shapeCasts_S1_S1x1x1) inpos_S1x1x1_p0_0_0
      = ∑ i : S1x8x128.Idx, x i :=
  (Ideal.multiReduction_add_total _ 0x00000000#32 reduces_S1x8x128_S1 one_axis (.inl rfl) rfl _).trans ((sum_shapeCast _ shapeCasts_S8x128_S1x8x128).trans (sum_shapeCast x shapeCasts_S1x8x128_S8x128))

theorem combine_apply (s : S32x2x16.Idx → EReal) (a : S2x8x128.Idx → EReal) (j : S1x1.Idx) :
    combine (F := Ideal) s a j = Ideal.div (∑ x : S32x1x16.Idx, scRow (F := Ideal) s 1 x + rowSum a 1) (∑ x : S32x1x16.Idx, scRow (F := Ideal) s 0 x + rowSum a 0) := by
  unfold combine rowSum
  rw [← extract_sc, ← extract_sc, ← extract_tc, ← extract_tc]
  rfl

/-! ### The arrays between the calls -/

variable (V : Dev nD → Valuation τ sig (Elt Ideal)) (B : Dev nD → Set (SemLoc sig × SparseCore.Cfg.HIx 1)) (c : Dev nD)

theorem lastLt : 5 < cfg1.N := by decide
theorem onlyLt : 0 < cfg2.N := by decide

theorem arr1 : (dat1 (F := Ideal) V B c).arrAt 2 cfg1.N = accAt (F := Ideal) V c 6 := by
  refine (dat1 (F := Ideal) V B c).arrAt_eq_of_after_last 2 ⟨5, lastLt⟩ (by decide +kernel) _ fun j => ?_
  rfl

theorem index2 (t : Fin cfg2.N) : (cfg2.win 0).index t = ![0, 0, 0] := by revert t; decide +kernel
theorem index2' (t : Fin cfg2.N) : (cfg2.win 1).index t = ![0, 0, 0] := by revert t; decide +kernel

theorem blkS_eq (t : Fin cfg2.N) : blkS (F := Ideal) V c t = V c main_v0 := by
  funext i
  refine congrArg (V c (main_v0 : DevRef τ sig)) (funext fun a => Fin.ext ?_)
  exact Pipeline.Window.rect_emb_val_of_index_zero (cfg2.win 0) t a (by rw [index2]; match a with | 0 => rfl | 1 => rfl | 2 => rfl) i

theorem blkA_eq (t : Fin cfg2.N) : blkA (F := Ideal) V c t = V c main_v3 := by
  funext i
  refine congrArg (V c (main_v3 : DevRef τ sig)) (funext fun a => Fin.ext ?_)
  exact Pipeline.Window.rect_emb_val_of_index_zero (cfg2.win 1) t a (by rw [index2']; match a with | 0 => rfl | 1 => rfl | 2 => rfl) i

theorem arr2 : (dat2 (F := Ideal) V B c).arrAt 2 cfg2.N = combine (F := Ideal) (V c main_v0) (V c main_v3) := by
  refine (dat2 (F := Ideal) V B c).arrAt_eq_of_after_last 2 ⟨0, onlyLt⟩ (by decide +kernel) _ fun j => ?_
  rw [← blkS_eq V c ⟨0, onlyLt⟩, ← blkA_eq V c ⟨0, onlyLt⟩]
  rfl

/-! ### The whole run -/

section Whole

variable (m : (ℓ : Loc nD τ sig) → Buf (Elt Ideal) ℓ)

/-- The two arguments of device `c`. -/
abbrev argP : S8388608.Idx → EReal := m (pLoc c)
abbrev argG : S8388608.Idx → EReal := m (gLoc c)

theorem val2_v1 : val2 (F := Ideal) m c (main_v1 : DevRef τ sig) = rows (argP c m) := by
  unfold val2
  after_results
  rfl

theorem val2_v2 : val2 (F := Ideal) m c (main_v2 : DevRef τ sig) = rows (argG c m) := by
  unfold val2
  after_results
  rfl

theorem val3_v0 : val3 (F := Ideal) m c (main_v0 : DevRef τ sig) = partials (F := Ideal) (argP c m) (argG c m) := by
  have e3 : val3 (F := Ideal) m c (main_v0 : DevRef τ sig) = val2 m c main_v0 := Function.update_of_ne (devRef_ne (by decide)) _ _
  have e2 : val2 (F := Ideal) m c (main_v0 : DevRef τ sig) = val1 m c main_v0 := StableHlo.after_of_writes_sub (W := [main_v1, main_v2]) _ _ (by simp) (by simp; decide)
  rw [e3, e2]
  exact Function.update_self _ _ _

theorem val3_v3 : val3 (F := Ideal) m c (main_v3 : DevRef τ sig) = accAt (F := Ideal) (val2 m) c 6 :=
  (Function.update_self _ _ _).trans (arr1 (val2 m) recB c)

theorem val4_v4 : val4 (F := Ideal) m c (main_v4 : DevRef τ sig) = combine (F := Ideal) (partials (argP c m) (argG c m)) (accAt (val2 m) c 6) := by
  refine (Function.update_self _ _ _).trans ((arr2 (val3 m) recB c).trans ?_)
  rw [val3_v0, val3_v3]

theorem val5_v5 : val5 (F := Ideal) m c (main_v5 : DevRef τ sig) = shapeCast S_ (combine (F := Ideal) (partials (argP c m) (argG c m)) (accAt (val2 m) c 6)) shapeCasts_S1x1_S_ := by
  rw [← val4_v4]
  unfold val5
  after_results
  rfl

/-- The tiles' part of the entries and the rest. -/
theorem sum_split (f : ℕ → EReal) : ∑ i ∈ Finset.range 2097152, f i + ∑ i ∈ Finset.range 6291456, f (2097152 + i) = ∑ i ∈ Finset.range 8388608, f i :=
  (Finset.sum_range_add f 2097152 6291456).symm

theorem entry_rowMajor (P : S8388608.Idx → EReal) (i : S8388608.Idx) : entry P (S8388608.rowMajor i).val = P i := by
  unfold entry
  refine congrArg P (funext fun a => ?_)
  match a with
  | 0 =>
    refine Fin.ext ?_
    show (S8388608.rowMajor i).val % 8388608 = (i 0).val
    rw [Shape.rowMajor_val_one]
    exact Nat.mod_eq_of_lt (i 0).isLt

theorem sum_entries (h : EReal → EReal → EReal) (P G : S8388608.Idx → EReal) : ∑ i ∈ Finset.range 8388608, h (entry P i) (entry G i) = ∑ i : S8388608.Idx, h (P i) (G i) := by
  rw [← sum_rowMajor S8388608 (fun n => h (entry P n) (entry G n)) 8388608 (by simp [Shape.numel])]
  exact Finset.sum_congr rfl fun i _ => by rw [entry_rowMajor, entry_rowMajor]

theorem acc_weights (P G : S8388608.Idx → EReal) (V : Dev nD → Valuation τ sig (Elt Ideal)) (hP : V c (main_v1 : DevRef τ sig) = rows P) (hG : V c (main_v2 : DevRef τ sig) = rows G) :
    rowSum (accAt (F := Ideal) V c 6) 0 = ∑ i ∈ Finset.range 6291456, wgt (entry G (2097152 + i)) :=
  points_total V P G c (fun a => rowSum a 0) (fun _ y => wgt y) hP hG (rowSum_zero 0) rowSum_step0 6 (by decide)

theorem acc_errors (P G : S8388608.Idx → EReal) (V : Dev nD → Valuation τ sig (Elt Ideal)) (hP : V c (main_v1 : DevRef τ sig) = rows P) (hG : V c (main_v2 : DevRef τ sig) = rows G) :
    rowSum (accAt (F := Ideal) V c 6) 1 = ∑ i ∈ Finset.range 6291456, err (entry P (2097152 + i)) (entry G (2097152 + i)) :=
  points_total V P G c (fun a => rowSum a 1) err hP hG (rowSum_zero 1) rowSum_step1 6 (by decide)

/-- The result: the weighted mean of the squared errors. -/
theorem result_eq : result (F := Ideal) m c = fun _ : S_.Idx => Ideal.div (∑ i : S8388608.Idx, err (argP c m i) (argG c m i)) (∑ i : S8388608.Idx, wgt (argG c m i)) := by
  refine (val5_v5 c m).trans (funext fun j => ?_)
  refine (combine_apply _ _ _).trans ?_
  rw [scRow_partials0, scRow_partials1, acc_weights c (argP c m) (argG c m) (val2 m) (val2_v1 c m) (val2_v2 c m), acc_errors c (argP c m) (argG c m) (val2 m) (val2_v1 c m) (val2_v2 c m),
    sum_split fun i => wgt (entry (argG c m) i), sum_split fun i => err (entry (argP c m) i) (entry (argG c m) i), sum_entries err, sum_entries (fun _ y => wgt y) (argP c m)]

end Whole

end Cert.Proof.KI
-- ==== Proof.RVal.lean ====
module

public import proofs.«01_k».proof.Proof.RKeep
public import proofs.«01_k».proof.Proof.RConst
public import Idealize.ShloMosaic.Lib.Pointwise.Index
public import Idealize.ShloMosaic.Lib.StableHlo.Predicate
public import Idealize.ShloMosaic.Lib.Pointwise.SelectCore

@[expose] public section

noncomputable section

namespace Cert.Proof.R

open Cert.ReferenceIdeal Cert.ReferenceIdeal.Gen
open Idealize.ShloMosaic Idealize.ShloMosaic.TcCoe Idealize.ShloMosaic.StableHlo Idealize.SL.Sem

/-! ## The reference's stages at exact arithmetic -/

/-- The ranges are the tenths. -/
theorem ranges (V : Valuation τ sig (Elt Ideal)) :
    after opsR V (main_v1 : DevRef τ sig) = fun j : S10.Idx => ((((j 0).val : ℝ) / 10 : ℝ) : EReal) := by
  after_results
  simp only [TRef.ofBuf, TRef.toBuf, cast_eq]
  funext j
  refine (concatenate_pair_apply (s₁ := S10) (s₂ := S1) (t := S11) 0 _ _ _ _).trans ?_
  have hj : (j 0).val < 10 := (j 0).isLt
  rw [dif_pos (by show 0 + (j 0).val < 10; omega)]
  have ei : ∀ i : S10.Idx, (i 0).val = (j 0).val →
      (addf (F := Ideal) (φ := .f32) (mulf (fun _ => Ideal.ofBits .f32 0x00000000#32) (subf (fun _ => Ideal.ofBits .f32 0x3F800000#32)
        (Host.divf (sitofp .f32 (iotaInDim S10 32 0)) fun _ => Ideal.ofBits .f32 0x41200000#32)))
        (mulf (fun _ => Ideal.ofBits .f32 0x3F800000#32) (Host.divf (sitofp .f32 (iotaInDim S10 32 0)) fun _ => Ideal.ofBits .f32 0x41200000#32))) i
        = ((((j 0).val : ℝ) / 10 : ℝ) : EReal) := by
    intro i hi
    have hd : Ideal.div ((((BitVec.ofNat 32 (i 0).val).toInt : ℝ)) : EReal) (Ideal.ofBits .f32 0x41200000#32) = ((((j 0).val : ℝ) / 10 : ℝ) : EReal) := by
      rw [bits_ten, Ideal.div_coe (by norm_num), ← EReal.coe_mul, hi]
      rw [show (BitVec.ofNat 32 (j 0).val).toInt = ((j 0).val : ℤ) from StableHlo.Predicate.toInt_ofNat_small _ (by omega)]
      congr 1
      push_cast
      ring
    change Ideal.ofBits .f32 0x00000000#32 * (Ideal.ofBits .f32 0x3F800000#32 - Ideal.div ((((BitVec.ofNat 32 (i 0).val).toInt : ℝ)) : EReal) (Ideal.ofBits .f32 0x41200000#32))
      + Ideal.ofBits .f32 0x3F800000#32 * Ideal.div ((((BitVec.ofNat 32 (i 0).val).toInt : ℝ)) : EReal) (Ideal.ofBits .f32 0x41200000#32) = _
    rw [hd, bits_zero, bits_one]
    simp
  exact ei _ (by show 0 + (j 0).val = (j 0).val; omega)

/-- The targets, as written. -/
theorem targets (V : Valuation τ sig (Elt Ideal)) :
    after opsR V (main_cst : DevRef τ sig) = fun i : S20.Idx => Ideal.ofBits .f32 (lit0 (S20.rowMajor i)) := by
  after_results
  rfl

/-- The histogram before the counting: the targets' bins. -/
theorem counts (V : Valuation τ sig (Elt Ideal)) (h : V (main_cst : DevRef τ sig) = fun i : S20.Idx => Ideal.ofBits .f32 (lit0 (S20.rowMajor i))) :
    after opsH V (main_v14 : DevRef τ sig) = fun j : S10.Idx => ![4#32, 3#32, 3#32, 2#32, 2#32, 2#32, 1#32, 1#32, 1#32, 1#32] (j 0) := by
  after_results
  rw [h]
  simp only [TRef.ofBuf, TRef.toBuf, cast_eq]
  have e : fptosi 32 (mulf (broadcastInDim S20 ![] bcast_S_S20 (constant (F := Ideal) S_ .f32 0x41200000#32)) fun i => Ideal.ofBits .f32 (lit0 (S20.rowMajor i))) = fun i : S20.Idx => BitVec.ofNat 32 (bin (i 0)) := by
    funext i
    have hi : (S20.rowMajor i) = i 0 := Fin.ext (Shape.rowMajor_val_one i)
    refine Eq.trans ?_ (target_bin (i 0))
    rw [← hi, ← bits_ten]
    rfl
  rw [e]
  funext j
  obtain ⟨j0, rfl⟩ : ∃ a, j = ix1 a := ⟨j 0, (ix1_eta j).symm⟩
  revert j0
  decide +kernel

/-- One overwriting of a bin by its count. -/
def overwrite (h k v : BitVec 32) : BitVec 32 := Scalar.select (IntOp.cmpi .eq v k) h v

/-- The entry of a count that a slice of one keeps. -/
theorem pick {α : Type} (n : Fin 10 → α) (k : ℕ) (hk : k < 10) (hs : S10.Slices ![k] S1) (hc : S1.ShapeCasts S_) (i : S_.Idx) :
    shapeCast S_ (extractStridedSlice S1 ![k] (fun j : S10.Idx => n (j 0)) hs) hc i = n ⟨k, hk⟩ := by
  refine congrArg n (Fin.ext ?_)
  show k + _ = k
  simp only [Nat.add_eq_left]
  exact Nat.lt_one_iff.mp (Fin.isLt _)

/-- The selection an overwriting is made of. -/
theorem overwrite_eq (n : Fin 10 → BitVec 32) (v : S8388608.Idx → BitVec 32) (k : ℕ) (hk : k < 10) (w : BitVec 32) (hs : S10.Slices ![k] S1) :
    (select (cmpi .eq v (broadcastInDim S8388608 ![] bcast_S_S8388608 (constantI S_ 32 w)))
        (broadcastInDim S8388608 ![] bcast_S_S8388608 (shapeCast S_ (extractStridedSlice S1 ![k] (fun j : S10.Idx => n (j 0)) hs) shapeCasts_S1_S_)) v
      : S8388608.Idx → BitVec 32) = fun j => overwrite (n ⟨k, hk⟩) w (v j) := by
  funext j
  change Scalar.select _ (shapeCast S_ (extractStridedSlice S1 ![k] (fun j : S10.Idx => n (j 0)) hs) shapeCasts_S1_S_ _) _ = _
  rw [pick n k hk]
  rfl

theorem step0 (V : Valuation τ sig (Elt Ideal)) (n : Fin 10 → BitVec 32) (hn : V (main_v14 : DevRef τ sig) = fun j : S10.Idx => n (j 0)) :
    after opsW0 V (main_v26 : DevRef τ sig) = fun j : S8388608.Idx => overwrite (n 0) 0#32 (V (main_v21 : DevRef τ sig) j) := by
  after_results
  rw [hn]
  exact overwrite_eq n _ 0 (by decide) _ slices_S10_S1_0
theorem step1 (V : Valuation τ sig (Elt Ideal)) (n : Fin 10 → BitVec 32) (hn : V (main_v14 : DevRef τ sig) = fun j : S10.Idx => n (j 0)) :
    after opsW1 V (main_v31 : DevRef τ sig) = fun j : S8388608.Idx => overwrite (n 1) 1#32 (V (main_v26 : DevRef τ sig) j) := by
  after_results
  rw [hn]
  exact overwrite_eq n _ 1 (by decide) _ slices_S10_S1_1
theorem step2 (V : Valuation τ sig (Elt Ideal)) (n : Fin 10 → BitVec 32) (hn : V (main_v14 : DevRef τ sig) = fun j : S10.Idx => n (j 0)) :
    after opsW2 V (main_v36 : DevRef τ sig) = fun j : S8388608.Idx => overwrite (n 2) 2#32 (V (main_v31 : DevRef τ sig) j) := by
  after_results
  rw [hn]
  exact overwrite_eq n _ 2 (by decide) _ slices_S10_S1_2
theorem step3 (V : Valuation τ sig (Elt Ideal)) (n : Fin 10 → BitVec 32) (hn : V (main_v14 : DevRef τ sig) = fun j : S10.Idx => n (j 0)) :
    after opsW3 V (main_v41 : DevRef τ sig) = fun j : S8388608.Idx => overwrite (n 3) 3#32 (V (main_v36 : DevRef τ sig) j) := by
  after_results
  rw [hn]
  exact overwrite_eq n _ 3 (by decide) _ slices_S10_S1_3
theorem step4 (V : Valuation τ sig (Elt Ideal)) (n : Fin 10 → BitVec 32) (hn : V (main_v14 : DevRef τ sig) = fun j : S10.Idx => n (j 0)) :
    after opsW4' (after opsW4 V) (main_v46 : DevRef τ sig) = fun j : S8388608.Idx => overwrite (n 4) 4#32 (V (main_v41 : DevRef τ sig) j) := by
  rw [← after_two]
  simp only [opsW4, opsW4', List.cons_append, List.nil_append]
  after_results
  rw [hn]
  exact overwrite_eq n _ 4 (by decide) _ slices_S10_S1_4
theorem step5 (V : Valuation τ sig (Elt Ideal)) (n : Fin 10 → BitVec 32) (hn : V (main_v14 : DevRef τ sig) = fun j : S10.Idx => n (j 0)) :
    after opsW5 V (main_v51 : DevRef τ sig) = fun j : S8388608.Idx => overwrite (n 5) 5#32 (V (main_v46 : DevRef τ sig) j) := by
  after_results
  rw [hn]
  exact overwrite_eq n _ 5 (by decide) _ slices_S10_S1_5
theorem step6 (V : Valuation τ sig (Elt Ideal)) (n : Fin 10 → BitVec 32) (hn : V (main_v14 : DevRef τ sig) = fun j : S10.Idx => n (j 0)) :
    after opsW6 V (main_v56 : DevRef τ sig) = fun j : S8388608.Idx => overwrite (n 6) 6#32 (V (main_v51 : DevRef τ sig) j) := by
  after_results
  rw [hn]
  exact overwrite_eq n _ 6 (by decide) _ slices_S10_S1_6
theorem step7 (V : Valuation τ sig (Elt Ideal)) (n : Fin 10 → BitVec 32) (hn : V (main_v14 : DevRef τ sig) = fun j : S10.Idx => n (j 0)) :
    after opsW7 V (main_v61 : DevRef τ sig) = fun j : S8388608.Idx => overwrite (n 7) 7#32 (V (main_v56 : DevRef τ sig) j) := by
  after_results
  rw [hn]
  exact overwrite_eq n _ 7 (by decide) _ slices_S10_S1_7
theorem step8 (V : Valuation τ sig (Elt Ideal)) (n : Fin 10 → BitVec 32) (hn : V (main_v14 : DevRef τ sig) = fun j : S10.Idx => n (j 0)) :
    after opsW8 V (main_v66 : DevRef τ sig) = fun j : S8388608.Idx => overwrite (n 8) 8#32 (V (main_v61 : DevRef τ sig) j) := by
  after_results
  rw [hn]
  exact overwrite_eq n _ 8 (by decide) _ slices_S10_S1_8
theorem step9 (V : Valuation τ sig (Elt Ideal)) (n : Fin 10 → BitVec 32) (hn : V (main_v14 : DevRef τ sig) = fun j : S10.Idx => n (j 0)) :
    after opsW9 V (main_v71 : DevRef τ sig) = fun j : S8388608.Idx => overwrite (n 9) 9#32 (V (main_v66 : DevRef τ sig) j) := by
  after_results
  rw [hn]
  exact overwrite_eq n _ 9 (by decide) _ slices_S10_S1_9

end Cert.Proof.R
-- ==== Proof.RMean.lean ====
module

public import proofs.«01_k».proof.Proof.RVal

@[expose] public section

noncomputable section

namespace Cert.Proof.R

open Cert.ReferenceIdeal Cert.ReferenceIdeal.Gen
open Idealize.ShloMosaic Idealize.ShloMosaic.TcCoe Idealize.ShloMosaic.StableHlo Idealize.SL.Sem

/-- The counts of the bins. -/
def hist : Fin 10 → BitVec 32 := ![4#32, 3#32, 3#32, 2#32, 2#32, 2#32, 1#32, 1#32, 1#32, 1#32]

theorem least (j : S_.Idx) : Host.reduce IntOp.minsi (fun j : S10.Idx => hist (j 0)) (constantI S_ 32 2147483647#32) reducesTo_S10_S_d0 h_S_ j = 1#32 := by
  obtain rfl : ix0 = j := ix0_eta j
  decide +kernel
theorem most (j : S_.Idx) : Host.reduce IntOp.maxsi (fun j : S10.Idx => hist (j 0)) (constantI S_ 32 2147483648#32) reducesTo_S10_S_d0 h_S_ j = 4#32 := by
  obtain rfl : ix0 = j := ix0_eta j
  decide +kernel

/-- A weight, by which count it comes from. -/
def wt (b : Bool) : EReal := if b then ((2 / 3 : ℝ) : EReal) else ((1 : ℝ) : EReal)

/-- The weight the reference makes of a count of two or of one. -/
theorem wt_eq (b : Bool) :
    max (Ideal.ofBits .f32 0x3F800000#32 - Ideal.ofBits .f32 0x3F800000#32 * Ideal.div ((((if b then 2#32 else 1#32) - 1#32 : BitVec 32).toInt : ℝ) : EReal) (((4#32 - 1#32 : BitVec 32).toInt : ℝ) : EReal))
      (Ideal.ofBits .f32 0x3DCCCCCD#32) = wt b := by
  have h3 : (((4#32 - 1#32 : BitVec 32).toInt : ℝ)) = 3 := by norm_num [show (4#32 - 1#32 : BitVec 32).toInt = 3 by decide]
  rw [h3, Ideal.div_coe (by norm_num), bits_one, bits_floor, wt]
  cases b
  · simp only [Bool.false_eq_true, if_false, show (1#32 - 1#32 : BitVec 32).toInt = 0 by decide]
    rw [← EReal.coe_mul, ← EReal.coe_mul, ← EReal.coe_sub, ← coe_larger]
    congr 1
    norm_num
  · simp only [if_true, show (2#32 - 1#32 : BitVec 32).toInt = 1 by decide]
    rw [← EReal.coe_mul, ← EReal.coe_mul, ← EReal.coe_sub, ← coe_larger]
    congr 1
    norm_num

/-- The weights over their mean. -/
theorem weights (V : Valuation τ sig (Elt Ideal)) (b : S8388608.Idx → Bool)
    (hn : V (main_v14 : DevRef τ sig) = fun j : S10.Idx => hist (j 0))
    (hb : V (main_v71 : DevRef τ sig) = fun j : S8388608.Idx => if b j then 2#32 else 1#32) :
    after opsE V (main_v92 : DevRef τ sig) = fun j : S8388608.Idx =>
      ((1 : ℝ) : EReal) * Ideal.div (wt (b j)) (Ideal.div (((0 : ℝ) : EReal) + ∑ i : S8388608.Idx, wt (b i)) ((8388608 : ℝ) : EReal)) := by
  after_results
  rw [hn, hb]
  have hw : ∀ x : S8388608.Idx → EReal, (maximumf (F := Ideal) (φ := .f32)
      (subf (broadcastInDim S8388608 ![] bcast_S_S8388608 (constant S_ .f32 0x3F800000#32))
        (mulf (broadcastInDim S8388608 ![] bcast_S_S8388608 (constant S_ .f32 0x3F800000#32))
          (Host.divf (sitofp .f32 (subi (fun j : S8388608.Idx => if b j then 2#32 else 1#32) (broadcastInDim S8388608 ![] bcast_S_S8388608
              (Host.reduce IntOp.minsi (fun j : S10.Idx => hist (j 0)) (constantI S_ 32 2147483647#32) reducesTo_S10_S_d0 h_S_))))
            (broadcastInDim S8388608 ![] bcast_S_S8388608 (sitofp .f32 (subi
              (Host.reduce IntOp.maxsi (fun j : S10.Idx => hist (j 0)) (constantI S_ 32 2147483648#32) reducesTo_S10_S_d0 h_S_)
              (Host.reduce IntOp.minsi (fun j : S10.Idx => hist (j 0)) (constantI S_ 32 2147483647#32) reducesTo_S10_S_d0 h_S_)))))))
      (broadcastInDim S8388608 ![] bcast_S_S8388608 (constant S_ .f32 0x3DCCCCCD#32))) = fun j => wt (b j) := by
    intro _
    funext j
    refine Eq.trans ?_ (wt_eq (b j))
    rw [funext least, funext most]
    rfl
  rw [hw (fun _ => 0)]
  funext j
  change Ideal.ofBits .f32 0x3F800000#32 * Ideal.div (wt (b j)) (Ideal.div (Ideal.hostReduceAdd reducesTo_S8388608_S_d0 (fun j => wt (b j)) (Ideal.ofBits .f32 0x00000000#32) _) (Ideal.ofBits .f32 0x4B000000#32)) = _
  rw [Ideal.hostReduceAdd_total _ (fun k => k.elim0), bits_one, bits_zero, bits_size]

/-- The mean of the weighted squares. -/
theorem mean (V : Valuation τ sig (Elt Ideal)) (P G w : S8388608.Idx → EReal)
    (hP : V (main_arg0 : DevRef τ sig) = P) (hG : V (main_arg1 : DevRef τ sig) = G) (hw : V (main_v92 : DevRef τ sig) = w) :
    after opsE' V (main_v97 : DevRef τ sig) = fun _ : S_.Idx =>
      Ideal.div (((0 : ℝ) : EReal) + ∑ i : S8388608.Idx, w i * ((G i - P i) * (G i - P i))) ((8388608 : ℝ) : EReal) := by
  after_results
  rw [hP, hG, hw]
  funext j
  change Ideal.div (Ideal.hostReduceAdd reducesTo_S8388608_S_d0 (fun i => w i * ((G i - P i) * (G i - P i))) (Ideal.ofBits .f32 0x00000000#32) _) (Ideal.ofBits .f32 0x4B000000#32) = _
  rw [Ideal.hostReduceAdd_total _ (fun k => k.elim0), bits_zero, bits_size]

end Cert.Proof.R
-- ==== Proof.RArg.lean ====
module

public import proofs.«01_k».proof.Proof.RVal

@[expose] public section

noncomputable section

namespace Cert.Proof.R

open Cert.ReferenceIdeal Cert.ReferenceIdeal.Gen
open Idealize.ShloMosaic Idealize.ShloMosaic.TcCoe Idealize.ShloMosaic.StableHlo Idealize.SL.Sem

/-! ## The nearest range -/

/-- A pair of a value and the number of its range. -/
def tag (p : EReal × Fin 10) : EReal × BitVec 32 := (p.1, BitVec.ofNat 32 p.2.val)

/-- Smaller, or as small and numbered no higher. -/
def Le (p q : EReal × Fin 10) : Prop := p.1 < q.1 ∨ p.1 = q.1 ∧ p.2 ≤ q.2

theorem Le.refl (p : EReal × Fin 10) : Le p p := .inr ⟨rfl, le_rfl⟩
theorem Le.trans {p q r : EReal × Fin 10} (h : Le p q) (k : Le q r) : Le p r := by
  rcases h with h | ⟨h, h'⟩ <;> rcases k with k | ⟨k, k'⟩
  · exact .inl (h.trans k)
  · exact .inl (k ▸ h)
  · exact .inl (h ▸ k)
  · exact .inr ⟨h.trans k, h'.trans k'⟩

theorem slt_ofNat (i j : Fin 10) : IntOp.cmpi .slt (BitVec.ofNat 32 i.val) (BitVec.ofNat 32 j.val) = BitVec.ofBool (decide (i < j)) := by
  revert i j
  decide

/-- One step keeps the lesser pair. -/
theorem reducer_tag (p q : EReal × Fin 10) :
    (reducer_argmin_f32_i32 (F := Ideal) (tag p) (tag q) = tag p ∧ Le p q) ∨ (reducer_argmin_f32_i32 (F := Ideal) (tag p) (tag q) = tag q ∧ Le q p) := by
  obtain ⟨a, i⟩ := p
  obtain ⟨b, j⟩ := q
  simp only [reducer_argmin_f32_i32, tag, Le, slt_ofNat, Ideal.cmpf_def, Ideal.cmp]
  rcases lt_trichotomy a b with h | h | h
  · left
    simp [h, h.ne, IntOp.ori, IntOp.andi, Scalar.select]
  · subst h
    rcases lt_or_ge i j with k | k
    · left
      simp [k, k.le, IntOp.ori, IntOp.andi, Scalar.select]
    · right
      simp [k, k.not_gt, IntOp.ori, IntOp.andi, Scalar.select]
  · right
    simp [h, h.ne', h.not_gt, IntOp.ori, IntOp.andi, Scalar.select]

/-- The whole fold keeps the least pair. -/
theorem fold_tag (l : List (EReal × Fin 10)) (p : EReal × Fin 10) :
    ∃ r, (l.map tag).foldl (reducer_argmin_f32_i32 (F := Ideal)) (tag p) = tag r ∧ (r = p ∨ r ∈ l) ∧ Le r p ∧ ∀ q ∈ l, Le r q := by
  induction l generalizing p with
  | nil => exact ⟨p, rfl, .inl rfl, Le.refl p, by simp⟩
  | cons q l ih =>
    simp only [List.map_cons, List.foldl_cons]
    rcases reducer_tag p q with ⟨h, k⟩ | ⟨h, k⟩
    · rw [h]
      obtain ⟨r, h1, h2, h3, h4⟩ := ih p
      exact ⟨r, h1, h2.imp id (List.mem_cons_of_mem _), h3, by
        intro s hs
        rcases List.mem_cons.mp hs with rfl | hs
        · exact h3.trans k
        · exact h4 s hs⟩
    · rw [h]
      obtain ⟨r, h1, h2, h3, h4⟩ := ih q
      exact ⟨r, h1, .inr (by
          rcases h2 with rfl | h2
          · exact List.mem_cons_self
          · exact List.mem_cons_of_mem _ h2), h3.trans k, by
        intro s hs
        rcases List.mem_cons.mp hs with rfl | hs
        · exact h3
        · exact h4 s hs⟩

/-- A fold over the tagged entries of `v`, each there at least once, from infinity and number zero: the number of
    the first least entry. -/
theorem fold_least (l : List (EReal × BitVec 32)) (v : Fin 10 → EReal) (h1 : ∀ p ∈ l, ∃ i, p = tag (v i, i)) (h2 : ∀ i, tag (v i, i) ∈ l) :
    ∃ i : Fin 10, (l.foldl (reducer_argmin_f32_i32 (F := Ideal)) (⊤, 0#32)).2 = BitVec.ofNat 32 i.val ∧ ∀ j, Le (v i, i) (v j, j) := by
  obtain ⟨l', hl', rfl⟩ : ∃ l' : List (EReal × Fin 10), (∀ p ∈ l', p.1 = v p.2) ∧ l = l'.map tag := by
    clear h2
    induction l with
    | nil => exact ⟨[], by simp, rfl⟩
    | cons p l ih =>
      obtain ⟨l', h, rfl⟩ := ih fun q hq => h1 q (List.mem_cons_of_mem _ hq)
      obtain ⟨i, rfl⟩ := h1 p List.mem_cons_self
      exact ⟨(v i, i) :: l', by simpa using h, rfl⟩
  have inj : ∀ p q : EReal × Fin 10, tag p = tag q → p = q := by
    rintro ⟨a, i⟩ ⟨b, j⟩ h
    have ha : a = b := congrArg Prod.fst h
    have hi : BitVec.ofNat 32 i.val = BitVec.ofNat 32 j.val := congrArg Prod.snd h
    have : ∀ i j : Fin 10, BitVec.ofNat 32 i.val = BitVec.ofNat 32 j.val → i = j := by decide
    rw [ha, this i j hi]
  have h2' : ∀ i, (v i, i) ∈ l' := fun i => by
    obtain ⟨q, hq, e⟩ := List.mem_map.mp (h2 i)
    rwa [← inj _ _ e]
  obtain ⟨r, e, hr, hp, hq⟩ := fold_tag l' (⊤, 0)
  refine ⟨r.2, ?_, fun j => ?_⟩
  · have : tag (⊤, 0) = (⊤, 0#32) := rfl
    rw [← this, e]
    rfl
  · have hv : r.1 = v r.2 := by
      rcases hr with rfl | hr
      · rcases hq _ (h2' 0) with h | ⟨h, _⟩
        · exact absurd h not_top_lt
        · exact h
      · exact hl' r hr
    rw [← hv]
    exact hq _ (h2' j)

/-! ## The nearest tenth -/

/-- Whether the nearest tenth is one of the first six. -/
theorem nearest (y : ℝ) (i : Fin 10) (h : ∀ j : Fin 10, Le (max ((y : EReal) - (((i.val : ℝ) / 10 : ℝ) : EReal)) (-((y : EReal) - (((i.val : ℝ) / 10 : ℝ) : EReal))), i)
      (max ((y : EReal) - (((j.val : ℝ) / 10 : ℝ) : EReal)) (-((y : EReal) - (((j.val : ℝ) / 10 : ℝ) : EReal))), j)) : i.val ≤ 5 ↔ y ≤ 11 / 20 := by
  have e : ∀ j : Fin 10, (max ((y : EReal) - (((j.val : ℝ) / 10 : ℝ) : EReal)) (-((y : EReal) - (((j.val : ℝ) / 10 : ℝ) : EReal)))) = ((|y - (j.val : ℝ) / 10| : ℝ) : EReal) := by
    intro j
    rw [← EReal.coe_sub, ← EReal.coe_neg, ← coe_larger, abs]
  simp only [e, Le, EReal.coe_lt_coe_iff, EReal.coe_eq_coe_iff] at h
  constructor
  · intro hi
    have hi' : (i.val : ℝ) ≤ 5 := by exact_mod_cast hi
    have := h 6
    have h6 : |y - (i.val : ℝ) / 10| ≤ |y - 6 / 10| := by
      have := this.elim le_of_lt fun h => h.1.le
      simpa using this
    by_contra hy
    rw [not_le] at hy
    have := sq_le_sq.mpr h6
    nlinarith
  · intro hy
    by_contra hi
    have hi' : (6 : ℝ) ≤ i.val := by exact_mod_cast (by omega : 6 ≤ i.val)
    have h5 : |y - (i.val : ℝ) / 10| < |y - 5 / 10| := by
      rcases h 5 with h | ⟨_, h⟩
      · simpa using h
      · exact absurd (Fin.le_def.mp h) (by simpa using hi)
    have := sq_lt_sq.mpr h5
    nlinarith

end Cert.Proof.R
-- ==== Proof.RWhole.lean ====
module

public import proofs.«01_k».proof.Proof.RMean
public import proofs.«01_k».proof.Proof.RArg

@[expose] public section

noncomputable section

namespace Cert.Proof.R

open Cert.ReferenceIdeal Cert.ReferenceIdeal.Gen
open Idealize.ShloMosaic Idealize.ShloMosaic.TcCoe Idealize.ShloMosaic.StableHlo Idealize.SL.Sem

/-- How far a target lies from a tenth. -/
def away (y : EReal) (k : Fin 10) : EReal := max (y - (((k.val : ℝ) / 10 : ℝ) : EReal)) (-(y - (((k.val : ℝ) / 10 : ℝ) : EReal)))

/-- The reduction over a row of ten, when each entry is its distance: the first nearest tenth. -/
theorem row_least (y : EReal) (x : S8388608x10.Idx → EReal) (j : S8388608.Idx) (hx : ∀ i : S8388608x10.Idx, (i 0).val = (j 0).val → x i = away y (i 1)) :
    ∃ i : Fin 10, (Host.argReduce (F := Ideal) (φ := .f32) reducer_argmin_f32_i32 x (iotaInDim S8388608x10 32 1) (constant S_ .f32 0x7F800000#32) (constantI S_ 32 0#32)
        reducesTo_S8388608x10_S8388608_d1 h_S_ j).2 = BitVec.ofNat 32 i.val ∧ ∀ k, Le (away y i, i) (away y k, k) := by
  rw [Ideal.argReduce_eq_reduce2, Host.reduce2_eq_foldl_fiber]
  have hd : ∀ i : S8388608x10.Idx, Shape.ReducesTo.drop reducesTo_S8388608x10_S8388608_d1 i = j ↔ (i 0).val = (j 0).val := by
    intro i
    have e : (Shape.ReducesTo.drop reducesTo_S8388608x10_S8388608_d1 i 0).val = (i 0).val := rfl
    constructor
    · intro h
      rw [← e, h]
    · intro h
      funext a
      obtain rfl : a = 0 := Subsingleton.elim _ _
      exact Fin.ext (e.trans h)
  have hs : ((constant (F := Ideal) S_ .f32 0x7F800000#32 (Shape.Idx.first h_S_), (constantI S_ 32 0#32 : S_.Idx → BitVec 32) (Shape.Idx.first h_S_)) : EReal × BitVec 32) = (⊤, 0#32) :=
    Prod.ext bits_top rfl
  refine Eq.mp ?_ (fold_least (Host.argReduceFiber x (iotaInDim S8388608x10 32 1) reducesTo_S8388608x10_S8388608_d1 j) (away y) ?_ ?_)
  · rw [← hs]
  · intro p hp
    obtain ⟨n, hn, rfl⟩ := List.mem_map.mp hp
    have := (hd _).mp (of_decide_eq_true (List.mem_filter.mp hn).2)
    exact ⟨(S8388608x10.rowMajor.symm n) 1, Prod.ext (hx _ this) rfl⟩
  · intro i
    refine List.mem_map.mpr ⟨S8388608x10.rowMajor (ix2 (j 0) i), List.mem_filter.mpr ⟨List.mem_finRange _, decide_eq_true ?_⟩, ?_⟩
    · rw [Equiv.symm_apply_apply]
      exact (hd _).mpr rfl
    · rw [Equiv.symm_apply_apply]
      exact Prod.ext (hx _ rfl) rfl

/-- A vector laid down the rows of a table. -/
theorem down_rows {α : Type} {N K : ℕ} (G : (⟨1, ![N]⟩ : Shape).Idx → α) (h1 : (⟨1, ![N]⟩ : Shape).BroadcastsInDim ⟨2, ![N, 1]⟩ ![0])
    (h2 : (⟨2, ![N, 1]⟩ : Shape).BroadcastsInDim ⟨2, ![N, K]⟩ ![0, 1]) (i : (⟨2, ![N, K]⟩ : Shape).Idx) :
    broadcastInDim ⟨2, ![N, K]⟩ ![0, 1] h2 (broadcastInDim ⟨2, ![N, 1]⟩ ![0] h1 G) i = G (ix1 (i 0)) := by
  unfold broadcastInDim
  refine congrArg G (funext fun a => ?_)
  obtain rfl : a = 0 := Subsingleton.elim _ _
  refine Fin.ext ?_
  have hb : (i 0).val < N := (i 0).isLt
  dsimp only
  split_ifs with h
  · have : N = 1 := h
    show 0 = (i 0).val
    omega
  · exact absurd ‹N = 1› h
  · rfl

/-- A vector laid along the columns of a table. -/
theorem along_columns {α : Type} {N K : ℕ} (v : (⟨1, ![K]⟩ : Shape).Idx → α) (h1 : (⟨1, ![K]⟩ : Shape).BroadcastsInDim ⟨2, ![1, K]⟩ ![1])
    (h2 : (⟨2, ![1, K]⟩ : Shape).BroadcastsInDim ⟨2, ![N, K]⟩ ![0, 1]) (i : (⟨2, ![N, K]⟩ : Shape).Idx) :
    broadcastInDim ⟨2, ![N, K]⟩ ![0, 1] h2 (broadcastInDim ⟨2, ![1, K]⟩ ![1] h1 v) i = v (ix1 (i 1)) := by
  unfold broadcastInDim
  refine congrArg v (funext fun a => ?_)
  obtain rfl : a = 0 := Subsingleton.elim _ _
  refine Fin.ext ?_
  have hb : (i 1).val < K := (i 1).isLt
  dsimp only
  split_ifs with h
  · have : K = 1 := h
    show 0 = (i 1).val
    omega
  · exact absurd ‹K = 1› h
  · rfl

/-- An entry of the table of distances. -/
theorem distance (G : S8388608.Idx → EReal) (j : S8388608.Idx) (i : S8388608x10.Idx) (hi : (i 0).val = (j 0).val) :
    Host.absf (F := Ideal) (φ := .f32) (subf (broadcastInDim S8388608x10 ![0, 1] bcast_S8388608x1_S8388608x10_0_1 (broadcastInDim S8388608x1 ![0] bcast_S8388608_S8388608x1_0 G))
      (broadcastInDim S8388608x10 ![0, 1] bcast_S1x10_S8388608x10_0_1 (broadcastInDim S1x10 ![1] bcast_S10_S1x10_1 fun j : S10.Idx => ((((j 0).val : ℝ) / 10 : ℝ) : EReal)))) i
      = away (G j) (i 1) := by
  have h1 := down_rows G bcast_S8388608_S8388608x1_0 bcast_S8388608x1_S8388608x10_0_1 i
  have h2 := along_columns (N := 8388608) (fun j : S10.Idx => ((((j 0).val : ℝ) / 10 : ℝ) : EReal)) bcast_S10_S1x10_1 bcast_S1x10_S8388608x10_0_1 i
  have e : ix1 (i 0) = j := funext fun b => by
    obtain rfl : b = 0 := Subsingleton.elim _ _
    exact Fin.ext hi
  exact congrArg₂ (fun a b : EReal => max (a - b) (-(a - b))) (h1.trans (congrArg G e)) h2

/-- The stage of the nearest ranges, over any two reductions. -/
abbrev opsAOf (f : (S8388608x10.Idx → EReal) → (S8388608x10.Idx → BitVec 32) → (S_.Idx → EReal) → (S_.Idx → BitVec 32) → S8388608.Idx → EReal)
    (g : (S8388608x10.Idx → EReal) → (S8388608x10.Idx → BitVec 32) → (S_.Idx → EReal) → (S_.Idx → BitVec 32) → S8388608.Idx → BitVec 32) :
    List (HloOp τ sig (Elt Ideal)) :=
  [ unary main_arg1 main_v15 (broadcastInDim S8388608x1 ![0] bcast_S8388608_S8388608x1_0 : (⟨S8388608, .f32⟩ : BufTy).Contents (Elt Ideal) → (⟨S8388608x1, .f32⟩ : BufTy).Contents (Elt Ideal)),
    unary main_v1 main_v16 (broadcastInDim S1x10 ![1] bcast_S10_S1x10_1 : (⟨S10, .f32⟩ : BufTy).Contents (Elt Ideal) → (⟨S1x10, .f32⟩ : BufTy).Contents (Elt Ideal)),
    unary main_v15 main_v17 (broadcastInDim S8388608x10 ![0, 1] bcast_S8388608x1_S8388608x10_0_1 : (⟨S8388608x1, .f32⟩ : BufTy).Contents (Elt Ideal) → (⟨S8388608x10, .f32⟩ : BufTy).Contents (Elt Ideal)),
    unary main_v16 main_v18 (broadcastInDim S8388608x10 ![0, 1] bcast_S1x10_S8388608x10_0_1 : (⟨S1x10, .f32⟩ : BufTy).Contents (Elt Ideal) → (⟨S8388608x10, .f32⟩ : BufTy).Contents (Elt Ideal)),
    binary main_v17 main_v18 main_v19 (subf (F := Ideal) (φ := .f32) : (⟨S8388608x10, .f32⟩ : BufTy).Contents (Elt Ideal) → (⟨S8388608x10, .f32⟩ : BufTy).Contents (Elt Ideal) → (⟨S8388608x10, .f32⟩ : BufTy).Contents (Elt Ideal)),
    unary main_v19 main_v20 (Host.absf (F := Ideal) (φ := .f32) : (⟨S8388608x10, .f32⟩ : BufTy).Contents (Elt Ideal) → (⟨S8388608x10, .f32⟩ : BufTy).Contents (Elt Ideal)),
    TRef.nullary main_call2.v0 (iotaInDim S8388608x10 32 1),
    TRef.nullary main_call2.cst (constant (F := Ideal) S_ .f32 0x7F800000#32),
    TRef.nullary main_call2.c (constantI S_ 32 0#32),
    TRef.quaternary ((.of main_v20) : TRef sig ⟨S8388608x10, .f32⟩) main_call2.v0 main_call2.cst main_call2.c main_call2.v1_0 f,
    TRef.quaternary ((.of main_v20) : TRef sig ⟨S8388608x10, .f32⟩) main_call2.v0 main_call2.cst main_call2.c main_call2.v1_1 g ]

/-- What that stage leaves: the second reduction of the table of distances. -/
theorem opsAOf_v21 (f : (S8388608x10.Idx → EReal) → (S8388608x10.Idx → BitVec 32) → (S_.Idx → EReal) → (S_.Idx → BitVec 32) → S8388608.Idx → EReal)
    (g : (S8388608x10.Idx → EReal) → (S8388608x10.Idx → BitVec 32) → (S_.Idx → EReal) → (S_.Idx → BitVec 32) → S8388608.Idx → BitVec 32)
    (V : Valuation τ sig (Elt Ideal)) :
    after (opsAOf f g) V (main_v21 : DevRef τ sig) = g (Host.absf (F := Ideal) (φ := .f32)
        (subf (broadcastInDim S8388608x10 ![0, 1] bcast_S8388608x1_S8388608x10_0_1 (broadcastInDim S8388608x1 ![0] bcast_S8388608_S8388608x1_0 (V (main_arg1 : DevRef τ sig))))
          (broadcastInDim S8388608x10 ![0, 1] bcast_S1x10_S8388608x10_0_1 (broadcastInDim S1x10 ![1] bcast_S10_S1x10_1 (V (main_v1 : DevRef τ sig))))))
      (iotaInDim S8388608x10 32 1) (constant (F := Ideal) S_ .f32 0x7F800000#32) (constantI S_ 32 0#32) := by
  after_results
  rfl

/-- The nearest tenths of the targets. -/
theorem nearests (V : Valuation τ sig (Elt Ideal)) (G : S8388608.Idx → EReal) (hG : V (main_arg1 : DevRef τ sig) = G)
    (h1 : V (main_v1 : DevRef τ sig) = fun j : S10.Idx => ((((j 0).val : ℝ) / 10 : ℝ) : EReal)) (j : S8388608.Idx) :
    ∃ i : Fin 10, (after opsA V (main_v21 : DevRef τ sig) : S8388608.Idx → BitVec 32) j = BitVec.ofNat 32 i.val ∧ ∀ k, Le (away (G j) i, i) (away (G j) k, k) := by
  have h : after opsA V (main_v21 : DevRef τ sig) = _ := opsAOf_v21
    (fun x y u v j => (Host.argReduce (F := Ideal) (φ := .f32) reducer_argmin_f32_i32 x y u v reducesTo_S8388608x10_S8388608_d1 h_S_ j).1)
    (fun x y u v j => (Host.argReduce (F := Ideal) (φ := .f32) reducer_argmin_f32_i32 x y u v reducesTo_S8388608x10_S8388608_d1 h_S_ j).2) V
  rw [hG, h1] at h
  obtain ⟨i, hi, hk⟩ := row_least (G j) _ j (distance G j)
  exact ⟨i, (congrFun h j).trans hi, hk⟩

/-- All ten overwritings. -/
def chain (v : BitVec 32) : BitVec 32 :=
  overwrite (hist 9) 9#32 (overwrite (hist 8) 8#32 (overwrite (hist 7) 7#32 (overwrite (hist 6) 6#32 (overwrite (hist 5) 5#32
    (overwrite (hist 4) 4#32 (overwrite (hist 3) 3#32 (overwrite (hist 2) 2#32 (overwrite (hist 1) 1#32 (overwrite (hist 0) 0#32 v)))))))))

theorem chain_eq (i : Fin 10) : chain (BitVec.ofNat 32 i.val) = if decide (i.val ≤ 5) then 2#32 else 1#32 := by
  revert i
  decide

/-- The reference's result: for some choice of weights, that of the target wherever the target is a real number, the mean of the
    squares times the weights over their mean. -/
theorem final_v97 (V : Valuation τ sig (Elt Ideal)) (P G : S8388608.Idx → EReal) (hP : V (main_arg0 : DevRef τ sig) = P) (hG : V (main_arg1 : DevRef τ sig) = G) :
    ∃ b : S8388608.Idx → Bool, (∀ j (y : ℝ), G j = y → b j = decide (y ≤ 11 / 20)) ∧
      final V (main_v97 : DevRef τ sig) = fun _ : S_.Idx =>
        Ideal.div (((0 : ℝ) : EReal) + ∑ i : S8388608.Idx, (((1 : ℝ) : EReal) * Ideal.div (wt (b i)) (Ideal.div (((0 : ℝ) : EReal) + ∑ k : S8388608.Idx, wt (b k)) ((8388608 : ℝ) : EReal)))
          * ((G i - P i) * (G i - P i))) ((8388608 : ℝ) : EReal) := by
  have hn : ∀ j, ∃ i : Fin 10, (after opsA (after opsH (after opsR V)) (main_v21 : DevRef τ sig) : S8388608.Idx → BitVec 32) j = BitVec.ofNat 32 i.val
      ∧ ∀ k, Le (away (G j) i, i) (away (G j) k, k) :=
    nearests _ G (by rw [opsH_arg1, opsR_arg1, hG]) (by rw [opsH_v1, ranges])
  choose I hI using hn
  refine ⟨fun j => decide ((I j).val ≤ 5), fun j y hy => ?_, ?_⟩
  · have := (hI j).2
    rw [hy] at this
    simp only [nearest y (I j) this]
  · have n0 : after opsA (after opsH (after opsR V)) (main_v14 : DevRef τ sig) = fun j : S10.Idx => hist (j 0) :=
      (opsA_v14 _).trans (counts _ (targets V))
    have n1 := (opsW0_v14 _).trans n0
    have n2 := (opsW1_v14 _).trans n1
    have n3 := (opsW2_v14 _).trans n2
    have n4 := (opsW3_v14 _).trans n3
    have n5 := (opsW4_v14 _).trans n4
    have n6 := (opsW4'_v14 _).trans n5
    have n7 := (opsW5_v14 _).trans n6
    have n8 := (opsW6_v14 _).trans n7
    have n9 := (opsW7_v14 _).trans n8
    have n10 := (opsW8_v14 _).trans n9
    have n11 := (opsW9_v14 _).trans n10
    have a0 : after opsA (after opsH (after opsR V)) (main_arg0 : DevRef τ sig) = P := (opsA_arg0 _).trans ((opsH_arg0 _).trans ((opsR_arg0 _).trans hP))
    replace a0 := (opsW0_arg0 _).trans a0
    replace a0 := (opsW1_arg0 _).trans a0
    replace a0 := (opsW2_arg0 _).trans a0
    replace a0 := (opsW3_arg0 _).trans a0
    replace a0 := (opsW4_arg0 _).trans a0
    replace a0 := (opsW4'_arg0 _).trans a0
    replace a0 := (opsW5_arg0 _).trans a0
    replace a0 := (opsW6_arg0 _).trans a0
    replace a0 := (opsW7_arg0 _).trans a0
    replace a0 := (opsW8_arg0 _).trans a0
    replace a0 := (opsW9_arg0 _).trans a0
    replace a0 := (opsE_arg0 _).trans a0
    have a1 : after opsA (after opsH (after opsR V)) (main_arg1 : DevRef τ sig) = G := (opsA_arg1 _).trans ((opsH_arg1 _).trans ((opsR_arg1 _).trans hG))
    replace a1 := (opsW0_arg1 _).trans a1
    replace a1 := (opsW1_arg1 _).trans a1
    replace a1 := (opsW2_arg1 _).trans a1
    replace a1 := (opsW3_arg1 _).trans a1
    replace a1 := (opsW4_arg1 _).trans a1
    replace a1 := (opsW4'_arg1 _).trans a1
    replace a1 := (opsW5_arg1 _).trans a1
    replace a1 := (opsW6_arg1 _).trans a1
    replace a1 := (opsW7_arg1 _).trans a1
    replace a1 := (opsW8_arg1 _).trans a1
    replace a1 := (opsW9_arg1 _).trans a1
    replace a1 := (opsE_arg1 _).trans a1
    simp only [final, ops, after_two]
    refine mean _ P G _ a0 a1 (weights _ (fun j => decide ((I j).val ≤ 5)) n11 ?_)
    rw [step9 _ hist n10, step8 _ hist n9, step7 _ hist n8, step6 _ hist n7, step5 _ hist n6, step4 _ hist n4, step3 _ hist n3, step2 _ hist n2, step1 _ hist n1, step0 _ hist n0]
    funext j
    refine Eq.trans ?_ (chain_eq (I j))
    rw [← (hI j).1]
    rfl

end Cert.Proof.R
-- ==== Proof.Algebra.lean ====
module

public import proofs.«01_k».proof.Proof.KIVal3
public import proofs.«01_k».proof.Proof.RWhole
public import proofs.«01_k».proof.Proof.RRun
public import proofs.«01_k».proof.Proof.RKeep

@[expose] public section

noncomputable section

namespace Cert.Proof

open Idealize.ShloMosaic

/-! ## The two values are the same -/

/-- A weight as a real number. -/
def real (b : Bool) : ℝ := if b then 2 / 3 else 1

theorem real_pos (b : Bool) : 0 < real b := by cases b <;> norm_num [real]
theorem wt_real (b : Bool) : R.wt b = ((real b : ℝ) : EReal) := by cases b <;> rfl
theorem wgt_real (y : EReal) : KI.wgt y = ((real (decide (y ≤ ((11 / 20 : ℝ) : EReal))) : ℝ) : EReal) := by
  unfold KI.wgt
  by_cases h : y ≤ ((11 / 20 : ℝ) : EReal) <;> simp [h, real]

/-- A squared difference of two numbers that are not both real is infinite. -/
theorem real_or_top (x y : EReal) : (∃ a b : ℝ, x = a ∧ y = b) ∨ (y - x) * (y - x) = ⊤ := by
  induction x <;> induction y <;> simp [← EReal.coe_sub]

theorem square_nonneg (d : EReal) : 0 ≤ d * d := by
  induction d with
  | bot => simp
  | top => simp
  | coe r => rw [← EReal.coe_mul]; exact EReal.coe_nonneg.mpr (mul_self_nonneg r)

section Sums

variable {ι : Type} [Fintype ι]

theorem sum_coe (f : ι → ℝ) : ∑ i, ((f i : ℝ) : EReal) = ((∑ i, f i : ℝ) : EReal) :=
  (map_sum (⟨⟨Real.toEReal, EReal.coe_zero⟩, EReal.coe_add⟩ : ℝ →+ EReal) f Finset.univ).symm

theorem sum_top (w : ι → ℝ) (hw : ∀ i, 0 < w i) (q : ι → EReal) (hq : ∀ i, 0 ≤ q i) (j : ι) (hj : q j = ⊤) : ∑ i, (w i : EReal) * q i = ⊤ := by
  refine top_le_iff.mp ?_
  have h := Finset.single_le_sum (f := fun i => (w i : EReal) * q i) (fun i _ => mul_nonneg (EReal.coe_nonneg.mpr (hw i).le) (hq i)) (Finset.mem_univ j)
  rw [show (w j : EReal) * q j = ⊤ by rw [hj]; exact EReal.coe_mul_top_of_pos (hw j)] at h
  exact h

/-- The weighted mean of the squares: the weights over their mean first, or the two sums and one quotient. -/
theorem means_eq [Nonempty ι] (n : ℝ) (hn : 0 < n) (P G : ι → EReal) (b : ι → Bool) (hb : ∀ i (y : ℝ), G i = y → b i = decide (y ≤ 11 / 20)) :
    Ideal.div (∑ i, KI.err (P i) (G i)) (∑ i, KI.wgt (G i))
      = Ideal.div (((0 : ℝ) : EReal) + ∑ i, (((1 : ℝ) : EReal) * Ideal.div (R.wt (b i)) (Ideal.div (((0 : ℝ) : EReal) + ∑ k, R.wt (b k)) (n : EReal))) * ((G i - P i) * (G i - P i))) (n : EReal) := by
  have hpos : ∀ f : ι → Bool, 0 < ∑ i, real (f i) := fun f => Finset.sum_pos (fun i _ => real_pos _) Finset.univ_nonempty
  have hS := hpos b
  have hT := hpos fun i => decide (G i ≤ ((11 / 20 : ℝ) : EReal))
  have hc : ∀ i, 0 < real (b i) * (1 / ((∑ k, real (b k)) * (1 / n))) := fun i =>
    mul_pos (real_pos _) (one_div_pos.mpr (mul_pos hS (one_div_pos.mpr hn)))
  simp only [KI.err, wgt_real, wt_real, sum_coe, EReal.coe_zero, zero_add, EReal.coe_one, one_mul]
  rw [Ideal.div_coe hT.ne', Ideal.div_coe hn.ne', Ideal.div_coe hn.ne', ← EReal.coe_mul]
  simp only [Ideal.div_coe (mul_pos hS (one_div_pos.mpr hn)).ne', ← EReal.coe_mul]
  by_cases h : ∃ j, (G j - P j) * (G j - P j) = ⊤
  · obtain ⟨j, hj⟩ := h
    rw [sum_top _ (fun i => real_pos _) (fun i => (G i - P i) * (G i - P i)) (fun i => square_nonneg _) j hj,
      sum_top _ hc (fun i => (G i - P i) * (G i - P i)) (fun i => square_nonneg _) j hj,
      EReal.top_mul_coe_of_pos (one_div_pos.mpr hT), EReal.top_mul_coe_of_pos (one_div_pos.mpr hn)]
  · have hr : ∀ i, ∃ a c : ℝ, P i = a ∧ G i = c := fun i => (real_or_top (P i) (G i)).resolve_right fun e => h ⟨i, e⟩
    choose x y hx hy using hr
    have hbi : ∀ i, decide (G i ≤ ((11 / 20 : ℝ) : EReal)) = b i := fun i => by
      rw [hb i (y i) (hy i), hy i]
      exact decide_eq_decide.mpr EReal.coe_le_coe_iff
    simp only [hbi]
    simp only [hx, hy, ← EReal.coe_sub, ← EReal.coe_mul, sum_coe]
    congr 1
    rw [Finset.sum_mul, Finset.sum_mul]
    refine Finset.sum_congr rfl fun i _ => ?_
    have := hS.ne'
    field_simp

end Sums

end Cert.Proof
-- ==== Proof.Equal.lean ====
module

public import proofs.«01_k».proof.Proof.Algebra

@[expose] public section

noncomputable section

namespace Cert.Proof

open Idealize.ShloMosaic
open Idealize.ShloMosaic.TcCoe

/-! ## At exact arithmetic the kernel computes the reference's value -/

instance : Nonempty Cert.KernelIdeal.S8388608.Idx := ⟨ix1 0⟩

/-- On equal arguments the two results are equal. -/
theorem results_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hP : V (Cert.ReferenceIdeal.main_arg0 : DevRef Cert.ReferenceIdeal.τ Cert.ReferenceIdeal.sig) = KI.argP c m)
    (hG : V (Cert.ReferenceIdeal.main_arg1 : DevRef Cert.ReferenceIdeal.τ Cert.ReferenceIdeal.sig) = KI.argG c m) :
    R.final V (Cert.ReferenceIdeal.main_v97 : DevRef Cert.ReferenceIdeal.τ Cert.ReferenceIdeal.sig) = KI.result (F := Ideal) m c := by
  obtain ⟨b, hb, hv⟩ := R.final_v97 V (KI.argP c m) (KI.argG c m) hP hG
  refine hv.trans (Eq.trans ?_ (KI.result_eq c m).symm)
  funext _
  exact (means_eq 8388608 (by norm_num) (KI.argP c m) (KI.argG c m) b hb).symm

theorem algebraic : Cert.algebraic_KernelIdeal_ReferenceIdeal := by
  intro m g m' g' _ hargs
  refine ⟨fun c => KI.result (F := Ideal) m c, ?_, ?_⟩
  · exact (θ_run Cert.KernelIdeal.defs _ _).mono (fun _ h => h.1) (KI.run_main (F := Ideal) m g)
  · exact (θ_run Cert.ReferenceIdeal.defs _ _).mono (fun r h c =>
      ⟨(h c Cert.ReferenceIdeal.main_v97).trans (results_eq m _ c (hargs c).1 (hargs c).2),
        (h c Cert.ReferenceIdeal.main_arg0).trans (R.final_arg0 _), (h c Cert.ReferenceIdeal.main_arg1).trans (R.final_arg1 _)⟩)
      (R.run_all (F := Ideal) m' g')

end Cert.Proof
-- ==== Proof.lean ====
module

public import proofs.«01_k».proof.Defs
public import proofs.«01_k».proof.Proof.KRun
public import proofs.«01_k».proof.Proof.KIRun
public import proofs.«01_k».proof.Proof.RKeep
public import proofs.«01_k».proof.Proof.Pres
public import proofs.«01_k».proof.Proof.Equal

@[expose] public section

noncomputable section

namespace Cert.Proof

/-- The certificate's claims, one by one. -/
theorem claim : Cert.Claim :=
  ⟨Cert.Kernel.Gen.facts, Cert.KernelIdeal.Gen.facts, Cert.ReferenceIdeal.Gen.facts,
    K.frame, KI.frame, R.frame, preserves, algebraic⟩

end Cert.Proof

end
